-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S3x128x512 : Shape := ⟨3, ![3, 128, 512]⟩
abbrev S3 : Shape := ⟨1, ![3]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S3x128x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) (c1_i32_37 : BitVec 32) : Fin 3 → Nat :=
  let c0_i32_51 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v61 : BitVec 32 := Scalar.addi v5 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_61 : BitVec 32 := 0#32
  ![0, v72.toNat, 0]
def k0_dev4 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v84 : BitVec 32 := Scalar.muli v2 c16_i32_55
  let v85 : BitVec 32 := Scalar.addi c0_i32_56 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_44 : BitVec 32 := 1#32
  let v73 : BitVec 32 := Scalar.addi v5 c1_i32_44
  let c4_i32_45 : BitVec 32 := 4#32
  let c0_i32_46 : BitVec 32 := 0#32
  let v74 : BitVec 1 := Scalar.cmpi .eq c4_i32_45 c0_i32_46
  let c1_i32_47 : BitVec 32 := 1#32
  let v75 : BitVec 32 := Scalar.select v74 c1_i32_47 c4_i32_45
  let v76 : BitVec 32 := Scalar.remsi v73 v75
  let c0_i32_49 : BitVec 32 := 0#32
  let v78 : BitVec 1 := Scalar.cmpi .slt v76 c0_i32_49
  let c0_i32_50 : BitVec 32 := 0#32
  let v79 : BitVec 1 := Scalar.cmpi .slt v75 c0_i32_50
  let v80 : BitVec 1 := Scalar.xori v78 v79
  let c0_i32_48 : BitVec 32 := 0#32
  let v77 : BitVec 1 := Scalar.cmpi .ne v76 c0_i32_48
  let v81 : BitVec 1 := Scalar.andi v80 v77
  let v82 : BitVec 32 := Scalar.addi v76 v75
  let v83 : BitVec 32 := Scalar.select v81 v82 v76
  let c4_i32_57 : BitVec 32 := 4#32
  let v86 : BitVec 32 := Scalar.muli v83 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k0_dev5 (d0 : Dev nD) : Nat :=
  let c0_i32_82 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_81 : BitVec 32 := 16#32
  let v121 : BitVec 32 := Scalar.muli v2 c16_i32_81
  let v122 : BitVec 32 := Scalar.addi c0_i32_82 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_70 : BitVec 32 := 2#32
  let v110 : BitVec 32 := Scalar.addi v5 c2_i32_70
  let c4_i32_71 : BitVec 32 := 4#32
  let c0_i32_72 : BitVec 32 := 0#32
  let v111 : BitVec 1 := Scalar.cmpi .eq c4_i32_71 c0_i32_72
  let c1_i32_73 : BitVec 32 := 1#32
  let v112 : BitVec 32 := Scalar.select v111 c1_i32_73 c4_i32_71
  let v113 : BitVec 32 := Scalar.remsi v110 v112
  let c0_i32_75 : BitVec 32 := 0#32
  let v115 : BitVec 1 := Scalar.cmpi .slt v113 c0_i32_75
  let c0_i32_76 : BitVec 32 := 0#32
  let v116 : BitVec 1 := Scalar.cmpi .slt v112 c0_i32_76
  let v117 : BitVec 1 := Scalar.xori v115 v116
  let c0_i32_74 : BitVec 32 := 0#32
  let v114 : BitVec 1 := Scalar.cmpi .ne v113 c0_i32_74
  let v118 : BitVec 1 := Scalar.andi v117 v114
  let v119 : BitVec 32 := Scalar.addi v113 v112
  let v120 : BitVec 32 := Scalar.select v118 v119 v113
  let c4_i32_83 : BitVec 32 := 4#32
  let v123 : BitVec 32 := Scalar.muli v120 c4_i32_83
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v125 : BitVec 32 := Scalar.muli v8 c1_i32_84
  let v126 : BitVec 32 := Scalar.addi v124 v125
  v126.toNat
def k0_dev6 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_107 : BitVec 32 := 16#32
  let v158 : BitVec 32 := Scalar.muli v2 c16_i32_107
  let v159 : BitVec 32 := Scalar.addi c0_i32_108 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_96 : BitVec 32 := 3#32
  let v147 : BitVec 32 := Scalar.addi v5 c3_i32_96
  let c4_i32_97 : BitVec 32 := 4#32
  let c0_i32_98 : BitVec 32 := 0#32
  let v148 : BitVec 1 := Scalar.cmpi .eq c4_i32_97 c0_i32_98
  let c1_i32_99 : BitVec 32 := 1#32
  let v149 : BitVec 32 := Scalar.select v148 c1_i32_99 c4_i32_97
  let v150 : BitVec 32 := Scalar.remsi v147 v149
  let c0_i32_101 : BitVec 32 := 0#32
  let v152 : BitVec 1 := Scalar.cmpi .slt v150 c0_i32_101
  let c0_i32_102 : BitVec 32 := 0#32
  let v153 : BitVec 1 := Scalar.cmpi .slt v149 c0_i32_102
  let v154 : BitVec 1 := Scalar.xori v152 v153
  let c0_i32_100 : BitVec 32 := 0#32
  let v151 : BitVec 1 := Scalar.cmpi .ne v150 c0_i32_100
  let v155 : BitVec 1 := Scalar.andi v154 v151
  let v156 : BitVec 32 := Scalar.addi v150 v149
  let v157 : BitVec 32 := Scalar.select v155 v156 v150
  let c4_i32_109 : BitVec 32 := 4#32
  let v160 : BitVec 32 := Scalar.muli v157 c4_i32_109
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v162 : BitVec 32 := Scalar.muli v8 c1_i32_110
  let v163 : BitVec 32 := Scalar.addi v161 v162
  v163.toNat
def k0_off2 (d0 : Dev nD) : Fin 3 → Nat :=
  let c0 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_147 : BitVec 32 := 128#32
  let v208 : BitVec 32 := Scalar.muli v5 c128_i32_147
  let v209 : Index := Scalar.indexCast v208
  let c0_148 : Index := 0#32
  ![0, v209.toNat, 0]
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_156 : BitVec 32 := 128#32
  let v221 : BitVec 32 := Scalar.muli v5 c128_i32_156
  let v222 : Index := Scalar.indexCast v221
  let c0_157 : Index := 0#32
  ![v222.toNat, 0]
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_164 : BitVec 32 := 128#32
  let v245 : BitVec 32 := Scalar.muli v5 c128_i32_164
  let c0_i32_178 : BitVec 32 := 0#32
  ![v245.toNat, 0]
def k0_dev7 (d0 : Dev nD) : Nat :=
  let c0_i32_175 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_174 : BitVec 32 := 16#32
  let v257 : BitVec 32 := Scalar.muli v2 c16_i32_174
  let v258 : BitVec 32 := Scalar.addi c0_i32_175 v257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v246 : BitVec 32 := Scalar.addi v5 c1_i32_165
  let c4_i32_166 : BitVec 32 := 4#32
  let c0_i32_167 : BitVec 32 := 0#32
  let v247 : BitVec 1 := Scalar.cmpi .eq c4_i32_166 c0_i32_167
  let c1_i32_168 : BitVec 32 := 1#32
  let v248 : BitVec 32 := Scalar.select v247 c1_i32_168 c4_i32_166
  let v249 : BitVec 32 := Scalar.remsi v246 v248
  let c0_i32_170 : BitVec 32 := 0#32
  let v251 : BitVec 1 := Scalar.cmpi .slt v249 c0_i32_170
  let c0_i32_171 : BitVec 32 := 0#32
  let v252 : BitVec 1 := Scalar.cmpi .slt v248 c0_i32_171
  let v253 : BitVec 1 := Scalar.xori v251 v252
  let c0_i32_169 : BitVec 32 := 0#32
  let v250 : BitVec 1 := Scalar.cmpi .ne v249 c0_i32_169
  let v254 : BitVec 1 := Scalar.andi v253 v250
  let v255 : BitVec 32 := Scalar.addi v249 v248
  let v256 : BitVec 32 := Scalar.select v254 v255 v249
  let c4_i32_176 : BitVec 32 := 4#32
  let v259 : BitVec 32 := Scalar.muli v256 c4_i32_176
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v261 : BitVec 32 := Scalar.muli v8 c1_i32_177
  let v262 : BitVec 32 := Scalar.addi v260 v261
  v262.toNat
def k0_dev8 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v282 : BitVec 32 := Scalar.muli v2 c16_i32_191
  let v283 : BitVec 32 := Scalar.addi c0_i32_192 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_182 : BitVec 32 := 2#32
  let v271 : BitVec 32 := Scalar.addi v5 c2_i32_182
  let c4_i32_183 : BitVec 32 := 4#32
  let c0_i32_184 : BitVec 32 := 0#32
  let v272 : BitVec 1 := Scalar.cmpi .eq c4_i32_183 c0_i32_184
  let c1_i32_185 : BitVec 32 := 1#32
  let v273 : BitVec 32 := Scalar.select v272 c1_i32_185 c4_i32_183
  let v274 : BitVec 32 := Scalar.remsi v271 v273
  let c0_i32_187 : BitVec 32 := 0#32
  let v276 : BitVec 1 := Scalar.cmpi .slt v274 c0_i32_187
  let c0_i32_188 : BitVec 32 := 0#32
  let v277 : BitVec 1 := Scalar.cmpi .slt v273 c0_i32_188
  let v278 : BitVec 1 := Scalar.xori v276 v277
  let c0_i32_186 : BitVec 32 := 0#32
  let v275 : BitVec 1 := Scalar.cmpi .ne v274 c0_i32_186
  let v279 : BitVec 1 := Scalar.andi v278 v275
  let v280 : BitVec 32 := Scalar.addi v274 v273
  let v281 : BitVec 32 := Scalar.select v279 v280 v274
  let c4_i32_193 : BitVec 32 := 4#32
  let v284 : BitVec 32 := Scalar.muli v281 c4_i32_193
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v286 : BitVec 32 := Scalar.muli v8 c1_i32_194
  let v287 : BitVec 32 := Scalar.addi v285 v286
  v287.toNat
def k0_dev9 (d0 : Dev nD) : Nat :=
  let c0_i32_209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_208 : BitVec 32 := 16#32
  let v307 : BitVec 32 := Scalar.muli v2 c16_i32_208
  let v308 : BitVec 32 := Scalar.addi c0_i32_209 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_199 : BitVec 32 := 3#32
  let v296 : BitVec 32 := Scalar.addi v5 c3_i32_199
  let c4_i32_200 : BitVec 32 := 4#32
  let c0_i32_201 : BitVec 32 := 0#32
  let v297 : BitVec 1 := Scalar.cmpi .eq c4_i32_200 c0_i32_201
  let c1_i32_202 : BitVec 32 := 1#32
  let v298 : BitVec 32 := Scalar.select v297 c1_i32_202 c4_i32_200
  let v299 : BitVec 32 := Scalar.remsi v296 v298
  let c0_i32_204 : BitVec 32 := 0#32
  let v301 : BitVec 1 := Scalar.cmpi .slt v299 c0_i32_204
  let c0_i32_205 : BitVec 32 := 0#32
  let v302 : BitVec 1 := Scalar.cmpi .slt v298 c0_i32_205
  let v303 : BitVec 1 := Scalar.xori v301 v302
  let c0_i32_203 : BitVec 32 := 0#32
  let v300 : BitVec 1 := Scalar.cmpi .ne v299 c0_i32_203
  let v304 : BitVec 1 := Scalar.andi v303 v300
  let v305 : BitVec 32 := Scalar.addi v299 v298
  let v306 : BitVec 32 := Scalar.select v304 v305 v299
  let c4_i32_210 : BitVec 32 := 4#32
  let v309 : BitVec 32 := Scalar.muli v306 c4_i32_210
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v311 : BitVec 32 := Scalar.muli v8 c1_i32_211
  let v312 : BitVec 32 := Scalar.addi v310 v311
  v312.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdealMesh.lean ====
/-
# The devices of a group, the pieces of the buffers, the semaphores

The mesh is 2 x 4 x 4 and the kernel talks inside the groups of four devices that differ in the middle
coordinate only. This module names what the protocol is stated over:

* `shift k c`: the device `k` steps further round `c`'s group, `row c` a device's place in its group;
* `xV b`, `oV b`: the `b`-th of the four row blocks of the staged input and of the staged result,
  `rV j`: the `j`-th slot of the receive buffer;
* `dsem a j`, `barS`: the twelve transfer semaphores and the barrier semaphore, `csem` all thirteen;
* the contents that pass: `recvAt`, `chunk`, `outAt`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Ring
public import Idealize.ShloMosaic.Lib.Tactic

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueKit

variable {F : FTy → Type} [FloatOps F]

/-! ## Devices -/

/-- A device's place in its group: the middle mesh coordinate. -/
def row (c : Dev nD) : Fin 4 := ⟨c.val / 4 % 4, Nat.mod_lt _ (by decide)⟩

/-- The device of `c`'s group at place `b`. -/
def atRow (b : Fin 4) (c : Dev nD) : Dev nD :=
  ⟨c.val / 16 * 16 + b.val * 4 + c.val % 4, by have h := c.isLt; have hb := b.isLt; simp only [nD] at h ⊢; omega⟩

/-- The device `k` places further round `c`'s group. -/
def shift (k : Fin 4) (c : Dev nD) : Dev nD := atRow (row c + k) c

theorem row_atRow : ∀ (b : Fin 4) (c : Dev nD), row (atRow b c) = b := by decide +kernel
theorem row_shift (k : Fin 4) (c : Dev nD) : row (shift k c) = row c + k := row_atRow _ _
theorem atRow_row : ∀ c : Dev nD, atRow (row c) c = c := by decide +kernel
theorem atRow_atRow : ∀ (b b' : Fin 4) (c : Dev nD), atRow b (atRow b' c) = atRow b c := by decide +kernel
theorem atRow_shift (b k : Fin 4) (c : Dev nD) : atRow b (shift k c) = atRow b c := atRow_atRow _ _ _
theorem add_neg_back : ∀ a k : Fin 4, a + k + -k = a := by decide
theorem add_left_back : ∀ r a b : Fin 4, r + a = r + b → a = b := by decide
theorem neg_add_back : ∀ a k : Fin 4, a + -k + k = a := by decide
theorem shift_neg_shift (k : Fin 4) (c : Dev nD) : shift (-k) (shift k c) = c := by
  unfold shift; rw [atRow_atRow, row_atRow, add_neg_back, atRow_row]
theorem shift_shift_neg (k : Fin 4) (c : Dev nD) : shift k (shift (-k) c) = c := by
  unfold shift; rw [atRow_atRow, row_atRow, neg_add_back, atRow_row]

/-- Going `k` places round every group is a permutation of the devices. -/
def turn (k : Fin 4) : Dev nD ≃ Dev nD := ⟨shift k, shift (-k), shift_neg_shift k, shift_shift_neg k⟩

/-- The opposite of the `j`-th way round: from the `j`-th peer back to the device. -/
theorem succ_rev : ∀ j : Fin 3, (Fin.rev j).succ = -j.succ := by decide
theorem shift_rev_shift (j : Fin 3) (c : Dev nD) : shift (Fin.rev j).succ (shift j.succ c) = c := by
  rw [succ_rev]; exact shift_neg_shift _ _
theorem shift_shift_rev (j : Fin 3) (c : Dev nD) : shift j.succ (shift (Fin.rev j).succ c) = c := by
  rw [succ_rev]; exact shift_shift_neg _ _

/-! The devices the kernel computes: three signals, three transfers of partial rows, three of finished rows. -/

theorem dev1_eq : ∀ c : Dev nD, (⟨k0_dev1 c, k0_dev1_lt c⟩ : Dev nD) = shift (0 : Fin 3).succ c := by decide +kernel
theorem dev2_eq : ∀ c : Dev nD, (⟨k0_dev2 c, k0_dev2_lt c⟩ : Dev nD) = shift (1 : Fin 3).succ c := by decide +kernel
theorem dev3_eq : ∀ c : Dev nD, (⟨k0_dev3 c, k0_dev3_lt c⟩ : Dev nD) = shift (2 : Fin 3).succ c := by decide +kernel
theorem dev4_eq : ∀ c : Dev nD, (⟨k0_dev4 c, k0_dev4_lt c⟩ : Dev nD) = shift (0 : Fin 3).succ c := by decide +kernel
theorem dev5_eq : ∀ c : Dev nD, (⟨k0_dev5 c, k0_dev5_lt c⟩ : Dev nD) = shift (1 : Fin 3).succ c := by decide +kernel
theorem dev6_eq : ∀ c : Dev nD, (⟨k0_dev6 c, k0_dev6_lt c⟩ : Dev nD) = shift (2 : Fin 3).succ c := by decide +kernel
theorem dev7_eq : ∀ c : Dev nD, (⟨k0_dev7 c, k0_dev7_lt c⟩ : Dev nD) = shift (0 : Fin 3).succ c := by decide +kernel
theorem dev8_eq : ∀ c : Dev nD, (⟨k0_dev8 c, k0_dev8_lt c⟩ : Dev nD) = shift (1 : Fin 3).succ c := by decide +kernel
theorem dev9_eq : ∀ c : Dev nD, (⟨k0_dev9 c, k0_dev9_lt c⟩ : Dev nD) = shift (2 : Fin 3).succ c := by decide +kernel

/-! The offsets the kernel computes, as row blocks. -/

theorem off1_eq : ∀ (j : Fin 3) (c : Dev nD), k0_off1 c (BitVec.ofNat 32 (1 + j.val)) = ![0, 128 * (row c + j.succ).val, 0] := by
  decide +kernel
theorem off2_eq (c : Dev nD) : k0_off2 c = ![0, 128 * (row c).val, 0] := k0_off2_eq c
theorem off3_eq (c : Dev nD) : k0_off3 c = ![128 * (row c).val, 0] := k0_off3_eq c
theorem off4_eq (c : Dev nD) : k0_off4 c = ![128 * (row c).val, 0] := k0_off4_eq c

/-! ## Memrefs: the staged operands, the staged result, the receive buffer, and their pieces -/

abbrev xM : Memref sig .tc .vmem S1x512x512 .f32 := Memref.whole cc0_stg0_0
abbrev sM : Memref sig .tc .vmem S512x512 .f32 := Memref.whole cc0_stg1_0
abbrev gM : Memref sig .tc .vmem S512 .f32 := Memref.whole cc0_stg2_0
abbrev oM : Memref sig .tc .vmem S512x512 .f32 := Memref.whole cc0_stg3_0
abbrev rM : Memref sig .tc .vmem S3x128x512 .f32 := Memref.whole cc0_scratch0

theorem inbX (b : Fin 4) : ∀ a, (![0, 128 * b.val, 0] : Fin 3 → Nat) a + S1x128x512.size a ≤ S1x512x512.size a := by
  revert b; decide
theorem inbO (b : Fin 4) : ∀ a, (![128 * b.val, 0] : Fin 2 → Nat) a + S128x512.size a ≤ S512x512.size a := by
  revert b; decide
theorem inbR (j : Fin 3) : ∀ a, (![j.val, 0, 0] : Fin 3 → Nat) a + S1x128x512.size a ≤ S3x128x512.size a := by
  revert j; decide

abbrev xR (b : Fin 4) : Rect S1x512x512 := Rect.unit (s := S1x512x512) ![0, 128 * b.val, 0] S1x128x512.size (inbX b)
abbrev oR (b : Fin 4) : Rect S512x512 := Rect.unit (s := S512x512) ![128 * b.val, 0] S128x512.size (inbO b)
abbrev rR (j : Fin 3) : Rect S3x128x512 := Rect.unit (s := S3x128x512) ![j.val, 0, 0] S1x128x512.size (inbR j)

/-- Row block `b` of the staged input. -/
abbrev xV (b : Fin 4) : Memref sig .tc .vmem S128x512 .f32 :=
  (xM.slice (xR b) (fun _ => rfl)).squeeze S128x512 squeezes_S1x128x512_S128x512
/-- Row block `b` of the staged result. -/
abbrev oV (b : Fin 4) : Memref sig .tc .vmem S128x512 .f32 := oM.slice (oR b) (fun _ => rfl)
/-- Slot `j` of the receive buffer. -/
abbrev rV (j : Fin 3) : Memref sig .tc .vmem S128x512 .f32 :=
  (rM.slice (rR j) (fun _ => rfl)).squeeze S128x512 squeezes_S1x128x512_S128x512

theorem xV_of_off {off : Fin 3 → Nat} {b : Fin 4} (h : off = ![0, 128 * b.val, 0])
    (inb : ∀ a, off a + S1x128x512.size a ≤ S1x512x512.size a) :
    (xM.slice (Rect.unit (s := S1x512x512) off S1x128x512.size inb) (fun _ => rfl)).squeeze S128x512 squeezes_S1x128x512_S128x512 = xV b := by
  subst h; rfl
theorem oV_of_off {off : Fin 2 → Nat} {b : Fin 4} (h : off = ![128 * b.val, 0])
    (inb : ∀ a, off a + S128x512.size a ≤ S512x512.size a) :
    oM.slice (Rect.unit (s := S512x512) off S128x512.size inb) (fun _ => rfl) = oV b := by
  subst h; rfl

/-- The elements of the pieces. -/
abbrev xS (b : Fin 4) : Finset S1x512x512.Idx := (xV b).view.set
abbrev oS (b : Fin 4) : Finset S512x512.Idx := (oV b).view.set
abbrev rS (j : Fin 3) : Finset S3x128x512.Idx := (rV j).view.set

/-! The elements of the pieces, by coordinates. -/

theorem forall3 {P : Fin 3 → Prop} : (∀ a, P a) ↔ P 0 ∧ P 1 ∧ P 2 := by
  rw [Fin.forall_fin_succ, Fin.forall_fin_two]; rfl

theorem mem_xV {b : Fin 4} {i : S1x512x512.Idx} : i ∈ (xV b).view.set ↔ (i 1).val / 128 = b.val := by
  refine (Finset.ext_iff.mp (View.set_reshape (xM.slice (xR b) (fun _ => rfl)).view squeezes_S1x128x512_S128x512.numel_eq) i).trans ?_
  refine mem_set_slice_whole_iff cc0_stg0_0 (xR b) i (Rect.mem_set_unit.trans ?_)
  have h0 : (i 0).val < 1 := (i 0).isLt
  have h1 : (i 1).val < 512 := (i 1).isLt
  have h2 : (i 2).val < 512 := (i 2).isLt
  refine forall3.trans ?_
  show (0 ≤ (i 0).val ∧ (i 0).val < 0 + 1) ∧ (128 * b.val ≤ (i 1).val ∧ (i 1).val < 128 * b.val + 128)
    ∧ (0 ≤ (i 2).val ∧ (i 2).val < 0 + 512) ↔ _
  omega

theorem mem_oV {b : Fin 4} {i : S512x512.Idx} : i ∈ (oV b).view.set ↔ (i 0).val / 128 = b.val := by
  refine mem_set_slice_whole_iff cc0_stg3_0 (oR b) i (Rect.mem_set_unit.trans ?_)
  have h0 : (i 0).val < 512 := (i 0).isLt
  have h1 : (i 1).val < 512 := (i 1).isLt
  refine Fin.forall_fin_two.trans ?_
  show (128 * b.val ≤ (i 0).val ∧ (i 0).val < 128 * b.val + 128) ∧ (0 ≤ (i 1).val ∧ (i 1).val < 0 + 512) ↔ _
  omega

theorem mem_rV {j : Fin 3} {i : S3x128x512.Idx} : i ∈ (rV j).view.set ↔ (i 0).val = j.val := by
  refine (Finset.ext_iff.mp (View.set_reshape (rM.slice (rR j) (fun _ => rfl)).view squeezes_S1x128x512_S128x512.numel_eq) i).trans ?_
  refine mem_set_slice_whole_iff cc0_scratch0 (rR j) i (Rect.mem_set_unit.trans ?_)
  have h0 : (i 0).val < 3 := (i 0).isLt
  have h1 : (i 1).val < 128 := (i 1).isLt
  have h2 : (i 2).val < 512 := (i 2).isLt
  refine forall3.trans ?_
  show (j.val ≤ (i 0).val ∧ (i 0).val < j.val + 1) ∧ (0 ≤ (i 1).val ∧ (i 1).val < 0 + 128)
    ∧ (0 ≤ (i 2).val ∧ (i 2).val < 0 + 512) ↔ _
  omega

/-! ## Semaphores -/

/-- The runtime's barrier semaphore of the kernel's collective id. -/
abbrev barS : Sem sig := (SemArray.scalar (sig.barrier 0 rfl) : Sems sig S_).sem

/-- The transfer semaphores: kind `a` (0: partial rows sent, 1: partial rows received, 2: finished rows sent,
    3: finished rows received), peer `j`. -/
def dsem (a : Fin 4) (j : Fin 3) : DmaSem sig :=
  ⟨4 + 3 * a.val + j.val, by have ha := a.isLt; have hj := j.isLt; show _ < 16; omega⟩

/-- A device's thirteen semaphores: the barrier, then the twelve of the transfers. -/
abbrev Slot : Type := Option (Fin 4 × Fin 3)

def csem : Slot → SemLoc sig
  | none => .reg barS
  | some (a, j) => .dma (dsem a j)

/-- Which of the thirteen a semaphore is, if any. -/
def slotOf : SemLoc sig → Option Slot
  | .reg s => if s = barS then some none else none
  | .dma q => if h : 4 ≤ q.val ∧ q.val < 16 then
      some (some (⟨(q.val - 4) / 3, by omega⟩, ⟨(q.val - 4) % 3, Nat.mod_lt _ (by decide)⟩)) else none

theorem slotOf_csem : ∀ k : Slot, slotOf (csem k) = some k := by decide +kernel
theorem slotOf_bar : slotOf (.reg barS : SemLoc sig) = some none := slotOf_csem none
theorem slotOf_dma (a : Fin 4) (j : Fin 3) : slotOf (.dma (dsem a j) : SemLoc sig) = some (some (a, j)) := slotOf_csem (some (a, j))
theorem csem_injective : Function.Injective csem := fun k k' h => by
  have := congrArg slotOf h; rw [slotOf_csem, slotOf_csem] at this; exact Option.some.inj this

/-- A device's cell of one of its thirteen semaphores. -/
abbrev cellAt (c : Dev nD) (k : Slot) : GSem nD τ sig := ((c : Thread nD τ), csem k)
abbrev barC (c : Dev nD) : GSem nD τ sig := cellAt c none
abbrev dmaC (a : Fin 4) (j : Fin 3) (c : Dev nD) : GSem nD τ sig := cellAt c (some (a, j))

theorem cellAt_injective : Function.Injective (fun ck : Dev nD × Slot => cellAt ck.1 ck.2) := by
  rintro ⟨c, k⟩ ⟨c', k'⟩ h
  have h1 : c = c' := congrArg (fun g : GSem nD τ sig => g.1.1) h
  have h2 : k = k' := csem_injective (congrArg Prod.snd h)
  rw [h1, h2]

/-- The units one transfer of 128 rows is worth. -/
abbrev N : ℕ := (rV 0).view.dmaCredit
theorem N_pos : 0 < N := View.dmaCredit_pos _ (by decide)

/-! ## Contents -/

variable (m : (ℓ : Loc nD τ sig) → Buf (Elt F) ℓ)

/-- The staged operands of device `c`: its partial sums, the residual rows, the scale. -/
def xAt (c : Dev nD) : (cc0_stg0_0 : Ref sig .tc).ty.Contents (Elt F) :=
  (win0_0.blk (0 : Fin 1)).view.read (Elt F) (m ((c : Thread nD τ).loc main_arg0))
def sAt (c : Dev nD) : (cc0_stg1_0 : Ref sig .tc).ty.Contents (Elt F) :=
  (win0_1.blk (0 : Fin 1)).view.read (Elt F) (m ((c : Thread nD τ).loc main_arg1))
def gAt (c : Dev nD) : (cc0_stg2_0 : Ref sig .tc).ty.Contents (Elt F) :=
  (win0_2.blk (0 : Fin 1)).view.read (Elt F) (m ((c : Thread nD τ).loc main_arg2))

/-- The index of the staged input at row `p` of row block `b`, lane `l`. -/
def xIx (b : Fin 4) (p : Fin 128) (l : Fin 512) : S1x512x512.Idx :=
  fun a => match a with
    | ⟨0, _⟩ => (⟨0, by decide⟩ : Fin 1)
    | ⟨1, _⟩ => (⟨128 * b.val + p.val, by have := b.isLt; have := p.isLt; omega⟩ : Fin 512)
    | ⟨2, _⟩ => l

/-- The receive buffer of device `c` once everything has arrived: slot `j` holds the rows of `c`'s block out of the
    partial sums of the device that counts `c` as its `j`-th peer. -/
def recvAt (c : Dev nD) : (cc0_scratch0 : Ref sig .tc).ty.Contents (Elt F) :=
  fun i => xAt m (shift (Fin.rev (i 0 : Fin 3)).succ c) (xIx (row c) (i 1 : Fin 128) (i 2 : Fin 512))

/-- The 128 finished rows device `c` computes, by the kernel's own formula over what it loads. -/
def chunk (c : Dev nD) : S128x512.Idx → Elt F .f32 :=
  k0_pay2 (k0_pay1 ((xM.access (xR (row c))).read (Elt F) (xAt m c)) ((rM.access (rR 0)).read (Elt F) (recvAt m c))
      ((rM.access (rR 1)).read (Elt F) (recvAt m c)) ((rM.access (rR 2)).read (Elt F) (recvAt m c))
      ((sM.access (oR (row c))).read (Elt F) (sAt m c)))
    ((gM.access (Rect.unit (s := S512) ![0] S512.size inb_S512_S512_0)).read (Elt F) (gAt m c))

/-- The whole result: row block `b` as the device of the group at place `b` computes it. -/
def outAt (c : Dev nD) : (cc0_stg3_0 : Ref sig .tc).ty.Contents (Elt F) :=
  fun i => chunk m (atRow ⟨(i 0).val / 128, by have h : (i 0).val < 512 := (i 0).isLt; omega⟩ c)
    (fun a => match a with
      | ⟨0, _⟩ => (⟨(i 0).val % 128, Nat.mod_lt _ (by decide)⟩ : Fin 128)
      | ⟨1, _⟩ => (i 1 : Fin 512))

/-- Every device of a group ends with the same result. -/
theorem outAt_shift (k : Fin 4) (c : Dev nD) : outAt m (shift k c) = outAt m c := by
  funext i; unfold outAt; rw [atRow_shift]

/-! What the transfers and the store leave, element by element. -/

theorem sq_numel : S128x512.numel = S1x128x512.numel := squeezes_S1x128x512_S128x512.numel_eq

theorem xV_emb (b : Fin 4) (y : S128x512.Idx) (a : Fin 3) :
    (((xV b).view.emb y : S1x512x512.Idx) a).val = (![0, 128 * b.val, 0] : Fin 3 → Nat) a + (Shape.reshapeEquiv sq_numel y a).val :=
  view_emb_slice_whole_unit_val cc0_stg0_0 _ _ (inbX b) (Shape.reshapeEquiv sq_numel y) a
theorem rV_emb (j : Fin 3) (y : S128x512.Idx) (a : Fin 3) :
    (((rV j).view.emb y : S3x128x512.Idx) a).val = (![j.val, 0, 0] : Fin 3 → Nat) a + (Shape.reshapeEquiv sq_numel y a).val :=
  view_emb_slice_whole_unit_val cc0_scratch0 _ _ (inbR j) (Shape.reshapeEquiv sq_numel y) a
theorem oV_emb (b : Fin 4) (y : S128x512.Idx) (a : Fin 2) :
    (((oV b).view.emb y : S512x512.Idx) a).val = (![128 * b.val, 0] : Fin 2 → Nat) a + (y a).val :=
  view_emb_slice_whole_unit_val cc0_stg3_0 _ _ (inbO b) y a

/-- Row `y` of block `b` of the staged input, under slot `j`'s coordinates for the same row. -/
theorem xV_rV (b : Fin 4) (j : Fin 3) (y : S128x512.Idx) :
    ((xV b).view.emb y : S1x512x512.Idx) = xIx b ((rV j).view.emb y (1 : Fin 3) : Fin 128) ((rV j).view.emb y (2 : Fin 3) : Fin 512) := by
  funext a
  apply Fin.ext
  have h1 := rV_emb j y 1
  have h2 := rV_emb j y 2
  have hx := xV_emb b y a
  fin_cases a
  · have h := ((xV b).view.emb y (0 : Fin 3) : Fin 1).isLt
    show ((xV b).view.emb y (0 : Fin 3) : Fin 1).val = 0
    exact Nat.lt_one_iff.mp h
  · refine hx.trans ?_
    show 128 * b.val + _ = 128 * b.val + _
    rw [h1]; exact congrArg _ (Nat.zero_add _).symm
  · refine hx.trans ?_
    exact h2.symm

/-- What slot `j` of the `j`-th peer's receive buffer is to hold, read off `c`'s own partial sums. -/
theorem recvAt_slot (j : Fin 3) (c : Dev nD) (i : S3x128x512.Idx) (h : (i 0).val = j.val) :
    recvAt m (shift j.succ c) i = xAt m c (xIx (row c + j.succ) (i 1 : Fin 128) (i 2 : Fin 512)) := by
  have h0 : (i 0 : Fin 3) = j := Fin.ext h
  subst h0
  refine (congrArg₂ (fun d b => xAt m d (xIx b (i 1 : Fin 128) (i 2 : Fin 512)))
    (shift_rev_shift (i 0 : Fin 3) c) (row_shift (i 0 : Fin 3).succ c))

/-- Row block `row (shift j.succ c)` of `c`'s partial sums, landed in slot `j` of that peer, is what the peer's receive
    buffer is to hold there. -/
theorem landed_recv (j : Fin 3) (c : Dev nD) (fd : (cc0_scratch0 : Ref sig .tc).ty.Contents (Elt F)) :
    ∀ i ∈ (rV j).view.set, (rV j).view.write (Elt F) fd ((xV (row c + j.succ)).view.read (Elt F) (xAt m c)) Finset.univ i
      = recvAt m (shift j.succ c) i := by
  intro i hi
  have hj := mem_rV.mp hi
  obtain ⟨y, rfl⟩ := View.exists_emb_of_mem_set _ hi
  refine (View.write_emb_of_mem _ _ (Finset.mem_univ _)).trans ?_
  refine Eq.trans ?_ (recvAt_slot m j c _ hj).symm
  exact congrArg (xAt m c) (xV_rV (row c + j.succ) j y)

/-- A finished row block copied onto itself on another device is that block. -/
theorem landed_out (b : Fin 4) (fd fs : (cc0_stg3_0 : Ref sig .tc).ty.Contents (Elt F)) :
    ∀ i ∈ (oV b).view.set, (oV b).view.write (Elt F) fd ((oV b).view.read (Elt F) fs) Finset.univ i = fs i := by
  intro i hi
  obtain ⟨y, rfl⟩ := View.exists_emb_of_mem_set _ hi
  rw [View.write_emb_of_mem _ _ (Finset.mem_univ _)]
  rfl

/-- The 128 rows a device computes, stored at its own row block, are the result's rows there. -/
theorem stored_out (c : Dev nD) (fd : (cc0_stg3_0 : Ref sig .tc).ty.Contents (Elt F)) :
    ∀ i ∈ (oV (row c)).view.set, (oM.access (oR (row c))).write (Elt F) fd (chunk m c) Finset.univ i = outAt m c i := by
  intro i hi
  have hb := mem_oV.mp hi
  obtain ⟨y, rfl⟩ := View.exists_emb_of_mem_set _ hi
  have h0 := oV_emb (row c) y 0
  have h1 := oV_emb (row c) y 1
  have hy0 : (y 0).val < 128 := (y 0).isLt
  refine (View.write_emb_of_mem (v := oM.access (oR (row c))) (Val := Elt F) fd (chunk m c) (Finset.mem_univ y)).trans ?_
  unfold outAt
  have hr : (⟨((oV (row c)).view.emb y (0 : Fin 2) : Fin 512).val / 128, by
      have h : ((oV (row c)).view.emb y (0 : Fin 2) : Fin 512).val < 512 := Fin.isLt _; omega⟩ : Fin 4) = row c := Fin.ext hb
  rw [hr, atRow_row]
  refine congrArg (chunk m c) ?_
  funext a
  apply Fin.ext
  fin_cases a
  · show (y 0).val = ((oV (row c)).view.emb y (0 : Fin 2) : Fin 512).val % 128
    rw [h0]
    show (y 0).val = (128 * (row c).val + (y 0).val) % 128
    omega
  · refine Eq.symm (h1.trans ?_)
    exact Nat.zero_add _

/-! The pieces make up the buffers. -/

theorem rows_disj_x (r : Fin 4) : ∀ b b' : Fin 4, b ≠ b' → Disjoint (xS (r + b)) (xS (r + b')) := by
  intro b b' h
  refine Finset.disjoint_left.mpr fun i hi hi' => h ?_
  have := (mem_xV.mp hi).symm.trans (mem_xV.mp hi')
  exact add_left_back _ _ _ (Fin.ext this)
theorem rows_disj_o (r : Fin 4) : ∀ b b' : Fin 4, b ≠ b' → Disjoint (oS (r + b)) (oS (r + b')) := by
  intro b b' h
  refine Finset.disjoint_left.mpr fun i hi hi' => h ?_
  have := (mem_oV.mp hi).symm.trans (mem_oV.mp hi')
  exact add_left_back _ _ _ (Fin.ext this)
theorem slots_disj : ∀ j j' : Fin 3, j ≠ j' → Disjoint (rS j) (rS j') := by
  intro j j' h
  refine Finset.disjoint_left.mpr fun i hi hi' => h ?_
  exact Fin.ext ((mem_rV.mp hi).symm.trans (mem_rV.mp hi'))

theorem neg_add_self_back : ∀ r q : Fin 4, r + (q - r) = q := by decide

theorem rows_cover_x (r : Fin 4) : (Finset.univ.biUnion fun b : Fin 4 => (xS (r + b))) = Finset.univ := by
  refine Finset.eq_univ_of_forall fun i => Finset.mem_biUnion.mpr ?_
  have h : (i 1).val < 512 := (i 1).isLt
  refine ⟨⟨(i 1).val / 128, by omega⟩ - r, Finset.mem_univ _, mem_xV.mpr ?_⟩
  rw [neg_add_self_back]
theorem rows_cover_o (r : Fin 4) : (Finset.univ.biUnion fun b : Fin 4 => (oS (r + b))) = Finset.univ := by
  refine Finset.eq_univ_of_forall fun i => Finset.mem_biUnion.mpr ?_
  have h : (i 0).val < 512 := (i 0).isLt
  refine ⟨⟨(i 0).val / 128, by omega⟩ - r, Finset.mem_univ _, mem_oV.mpr ?_⟩
  rw [neg_add_self_back]
theorem slots_cover : (Finset.univ.biUnion fun j : Fin 3 => (rS j)) = Finset.univ := by
  refine Finset.eq_univ_of_forall fun i => Finset.mem_biUnion.mpr ?_
  exact ⟨(i 0 : Fin 3), Finset.mem_univ _, mem_rV.mpr rfl⟩

end Cert.KernelIdeal.Mesh

end
-- ==== Proof.KernelIdealProtocol.lean ====
/-
# The protocol of the all-reduce

Every device first tells its three peers that it has entered the kernel, and waits until the three have told it
so. It then sends each peer that peer's row block of its partial sums (into the slot of the peer's receive buffer
kept for this direction), waits for the three blocks sent to it, computes its own 128 rows, sends them to the three
peers (into the row block that is its own place in the group), waits for the peers' rows, and last waits until its
own six transfers have left.

The protocol is one round of duties per semaphore (`sched`):

* barrier, three duties: the `j`-th peer hands over the `j`-th slot of its receive buffer and the row block of its
  result that the device is going to write;
* partial rows sent / received: the source rows come back / the slot holds the peer's rows;
* finished rows sent / received: a third of the source rows comes back / the peer's rows are in place.

What is owed is ordered by levels: barrier (1) below received partial rows (2) below received finished rows (3).
-/
module

public import proofs.«01_k».proof.Proof.KernelIdealMesh

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one component for the staging of the operands, one for the protocol's rounds -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces held -/

/-- Row block `b` of `c`'s staged partial sums. -/
def xPts (c : Dev nD) (b : Fin 4) : sProp 𝕄 := ((c : Thread nD τ).loc cc0_stg0_0) ↦[xS b]{fullShare} xAt m c
/-- Row block `b` of `c`'s staged result, at share `q` and contents `f`. -/
def oPts (q : PosShare TreeShare) (c : Dev nD) (b : Fin 4) (f : Buf (Elt F) ((c : Thread nD τ).loc cc0_stg3_0)) : sProp 𝕄 :=
  ((c : Thread nD τ).loc cc0_stg3_0) ↦[oS b]{q} f
/-- Slot `j` of `c`'s receive buffer, at contents `f`. -/
def rPts (c : Dev nD) (j : Fin 3) (f : Buf (Elt F) ((c : Thread nD τ).loc cc0_scratch0)) : sProp 𝕄 :=
  ((c : Thread nD τ).loc cc0_scratch0) ↦[rS j]{fullShare} f

omit [FloatOps F] in
instance xPts_storable (c : Dev nD) (b : Fin 4) : BI.Storable (upEmb : UEmb _ 𝕄) (xPts (F := F) m c b) := by unfold xPts; infer_instance
omit [FloatOps F] in
instance oPts_storable (q) (c : Dev nD) (b : Fin 4) (f) : BI.Storable (upEmb : UEmb _ 𝕄) (oPts (F := F) q c b f) := by
  unfold oPts; infer_instance
omit [FloatOps F] in
instance rPts_storable (c : Dev nD) (j : Fin 3) (f) : BI.Storable (upEmb : UEmb _ 𝕄) (rPts (F := F) c j f) := by unfold rPts; infer_instance

/-- The shares of its own finished rows a device lends to its three transfers. -/
def part : Fin 3 → PosShare TreeShare
  | 0 => fullShare.left
  | 1 => fullShare.right.left
  | 2 => fullShare.right.right

/-! ## The schedule -/

/-- What the `j`-th peer hands `c` at the barrier: the slot and the rows of the peer's that `c` is going to write. -/
def barPay (c : Dev nD) (j : Fin 3) : sProp 𝕄 :=
  iprop((∃ f, rPts (shift j.succ c) j f) ∗ ∃ f, oPts fullShare (shift j.succ c) (row c) f)

/-- What a transfer's semaphore of kind `a` hands its device `c`. -/
def dmaPay (a : Fin 4) (j : Fin 3) (c : Dev nD) : sProp 𝕄 :=
  match a with
  | 0 => xPts m c (row c + j.succ)
  | 1 => rPts c j (recvAt m c)
  | 2 => oPts (part j) c (row c) (outAt m c)
  | 3 => oPts fullShare c (row (shift (Fin.rev j).succ c)) (outAt m c)

def slotPay (s : Option Slot) (c : Dev nD) (d : Fin 3) : sProp 𝕄 :=
  match s with
  | none => iprop(emp)
  | some none => barPay c d
  | some (some (a, j)) => dmaPay m a j c

def slotDuties (s : Option Slot) : Finset (Fin 3) :=
  match s with
  | none => ∅
  | some none => Finset.univ
  | some (some _) => {0}

def slotAmt (s : Option Slot) : ℕ := if s = some none then 1 else N

theorem slotAmt_pos (s : Option Slot) : 0 < slotAmt s := by
  unfold slotAmt; split
  · exact Nat.one_pos
  · exact N_pos

/-- One round, round 0, on the thirteen semaphores of every device. -/
def sched : Rounds.Schedule (GSem nD τ sig) (Fin 3) 𝕄 where
  duties g r := if r = 0 ∧ g.1.2 = .tc then slotDuties (slotOf g.2) else ∅
  unitless _ := False
  amount g _ _ := slotAmt (slotOf g.2)
  payload g _ d := slotPay m (slotOf g.2) g.1.1 d
  amount_pos g _ _ _ := slotAmt_pos _

instance dmaPay_storable (a : Fin 4) (j : Fin 3) (c : Dev nD) : BI.Storable (upEmb : UEmb _ 𝕄) (dmaPay m a j c) := by
  unfold dmaPay; split <;> infer_instance
instance sched_payload_storable (g : GSem nD τ sig) (r : ℕ) (d : Fin 3) :
    BI.Storable (upEmb : UEmb _ 𝕄) ((sched (F := F) m).payload g r d) := by
  show BI.Storable upEmb (slotPay m (slotOf g.2) g.1.1 d)
  unfold slotPay barPay
  split <;> infer_instance

section Sched
variable (c : Dev nD)

theorem duties_at (k : Slot) : (sched (F := F) m).duties (cellAt c k) 0 = slotDuties (some k) := by
  have h : (sched (F := F) m).duties (cellAt c k) 0
      = if 0 = 0 ∧ (cellAt c k).1.2 = .tc then slotDuties (slotOf (csem k)) else ∅ := rfl
  rw [h, if_pos ⟨rfl, rfl⟩, slotOf_csem]
theorem duties_later (g : GSem nD τ sig) : ∀ r, 0 + 1 ≤ r → (sched (F := F) m).duties g r = ∅ :=
  fun r hr => if_neg (fun h => by omega)
theorem amount_at (k : Slot) (r : ℕ) (d : Fin 3) : (sched (F := F) m).amount (cellAt c k) r d = slotAmt (some k) := by
  show slotAmt (slotOf (csem k)) = _
  rw [slotOf_csem]
theorem payload_at (k : Slot) (r : ℕ) (d : Fin 3) : (sched (F := F) m).payload (cellAt c k) r d = slotPay m (some k) c d := by
  show slotPay m (slotOf (csem k)) c d = _
  rw [slotOf_csem]

theorem expect_bar : (sched (F := F) m).expect (barC c) 0 = 3 := by
  unfold Schedule.expect Schedule.amountOf
  rw [duties_at, Finset.sum_congr rfl fun d _ => amount_at m c none 0 d]
  rfl
theorem expect_dma (a : Fin 4) (j : Fin 3) : (sched (F := F) m).expect (dmaC a j c) 0 = N := by
  unfold Schedule.expect Schedule.amountOf
  rw [duties_at, Finset.sum_congr rfl fun d _ => amount_at m c (some (a, j)) 0 d]
  show ∑ d ∈ {0}, slotAmt _ = N
  rw [Finset.sum_singleton]
  exact if_neg (fun h => by cases h)

/-- All of a barrier's round: the three peers' slots and rows. -/
theorem rest_bar : bigSep ((sched (F := F) m).duties (barC c) 0 \ ∅) (fun d => (sched (F := F) m).payload (barC c) 0 d)
    = iprop(barPay c 0 ∗ barPay c 1 ∗ barPay c 2) := by
  rw [Finset.sdiff_empty, duties_at, bigSep_congr fun d _ => payload_at m c none 0 d]
  exact bigSep_univ_eq_bigSepL [(0 : Fin 3), 1, 2] (by decide) (by decide) fun d => barPay c d
/-- All of a transfer's round: its one payload. -/
theorem rest_dma (a : Fin 4) (j : Fin 3) :
    bigSep ((sched (F := F) m).duties (dmaC a j c) 0 \ ∅) (fun d => (sched (F := F) m).payload (dmaC a j c) 0 d) = dmaPay m a j c := by
  rw [Finset.sdiff_empty, duties_at, bigSep_congr fun d _ => payload_at m c (some (a, j)) 0 d]
  show bigSep {(0 : Fin 3)} _ = _
  rw [bigSep_singleton]; rfl

end Sched

/-! ## What each device owes at launch; the levels -/

/-- The nine payments of a device to its peers, the last first: the finished rows' transfers, the partial rows', the
    barrier signals — which peer, which of its semaphores, how many units. -/
def payPeer (i : ℕ) : Fin 3 := match i % 3 with | 0 => 2 | 1 => 1 | _ => 0
def paySlot (i : ℕ) : Slot := if i < 3 then some (3, payPeer i) else if i < 6 then some (1, payPeer i) else none
def payAmt (i : ℕ) : ℕ := slotAmt (some (paySlot i))

/-- The `i`-th payment of `c`, as a tally on the peer's cell. -/
def payment (c : Dev nD) (i : ℕ) : CellTallies nD τ sig Unit := tallyAt (cellAt (shift (payPeer i).succ c) (paySlot i)) () (payAmt i)
/-- What `c` owes with `n` payments still to make. -/
def dues (n : ℕ) (c : Dev nD) : CellTallies nD τ sig Unit := ∑ i ∈ Finset.range n, payment c i

theorem dues_succ (n : ℕ) (c : Dev nD) : dues (n + 1) c = dues n c + payment c n := Finset.sum_range_succ _ _
theorem dues_zero (c : Dev nD) : dues 0 c = 0 := rfl

theorem dues_pos {n : ℕ} {c : Dev nD} {g : GSem nD τ sig} {u : Unit} (h : 0 < dues n c g u) :
    ∃ i < n, g = cellAt (shift (payPeer i).succ c) (paySlot i) := by
  induction n with
  | zero => exact absurd h (Nat.lt_irrefl 0)
  | succ n ih =>
    rw [dues_succ, Pi.add_apply, Finsupp.add_apply] at h
    rcases Nat.add_pos_iff_pos_or_pos.mp h with h | h
    · obtain ⟨i, hi, hg⟩ := ih h; exact ⟨i, Nat.lt_succ_of_lt hi, hg⟩
    · refine ⟨n, Nat.lt_succ_self n, ?_⟩
      unfold payment at h
      rw [tallyAt_apply] at h
      by_contra hne
      rw [if_neg (fun h' => hne h'.1)] at h
      exact Nat.lt_irrefl 0 h

def L (g : GSem nD τ sig) : Finset Unit := if g.1.2 = .tc then {()} else ∅

def slotLev : Option Slot → ℕ
  | some none => 1
  | some (some (1, _)) => 2
  | some (some (3, _)) => 3
  | _ => 0
def lv (g : GSem nD τ sig) (_ : Unit) : ℕ := slotLev (slotOf g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore whose level is below those of all it still owes. -/
theorem mayWait (n : ℕ) (c : Dev nD) (sm : SemLoc sig) (h : ∀ i < n, slotLev (slotOf sm) < slotLev (some (paySlot i))) :
    (levAts L lv : sProp 𝕄) ⊢ MayWait (c : Thread nD τ) sm () (dues n c) :=
  MayOwe.of_cut (L := L) (lev := lv) (slotLev (slotOf sm))
    (fun p hp => by rw [Finset.mem_singleton.mp hp, L_tc]; exact Finset.mem_singleton_self _)
    (fun g u hg => by obtain ⟨i, _, rfl⟩ := dues_pos hg; rw [L_tc]; exact Finset.mem_singleton_self _)
    (fun p hp => by rw [Finset.mem_singleton.mp hp]; exact le_refl _)
    (fun g u hg => by
      obtain ⟨i, hi, rfl⟩ := dues_pos hg
      show slotLev (slotOf sm) < slotLev (slotOf (csem (paySlot i)))
      rw [slotOf_csem]; exact h i hi)

/-! ## What a device's body starts from -/

/-- Every device's thirteen cells, each under the schedule's invariant and at its first round. -/
def records (K : Dev nD × Slot → ℕ) : sProp 𝕄 :=
  iprop((bigSep Finset.univ fun ck : Dev nD × Slot => cellInv ER (sched m) (K ck) (cellAt ck.1 ck.2))
    ∗ bigSep Finset.univ fun ck : Dev nD × Slot => reached ER (cellAt ck.1 ck.2) 0)

instance records_persistent (K : Dev nD × Slot → ℕ) : BI.Persistent (records m K) := by unfold records; infer_instance

theorem records_inv (K : Dev nD × Slot → ℕ) (c : Dev nD) (k : Slot) : records m K ⊢ cellInv ER (sched m) (K (c, k)) (cellAt c k) := by
  unfold records
  iintro ⟨H, -⟩
  iapply (show (bigSep Finset.univ fun ck : Dev nD × Slot => (cellInv ER (sched m) (K ck) (cellAt ck.1 ck.2) : sProp 𝕄))
    ⊢ cellInv ER (sched m) (K (c, k)) (cellAt c k) from bigSep_elim (Finset.mem_univ (c, k)))
  iexact H
theorem records_reached (K : Dev nD × Slot → ℕ) (c : Dev nD) (k : Slot) : records m K ⊢ reached ER (cellAt c k) 0 := by
  unfold records
  iintro ⟨-, H⟩
  iapply (show (bigSep Finset.univ fun ck : Dev nD × Slot => (reached ER (cellAt ck.1 ck.2) 0 : sProp 𝕄))
    ⊢ reached ER (cellAt c k) 0 from bigSep_elim (Finset.mem_univ (c, k)))
  iexact H

/-- The tokens of the duties a device pays: at its peers' barriers and arrivals, at its own departures. -/
def payToks (c : Dev nD) : sProp 𝕄 :=
  iprop((bigSep Finset.univ fun j : Fin 3 => dutyTok ER (barC (shift j.succ c)) 0 (Fin.rev j))
    ∗ (bigSep Finset.univ fun j : Fin 3 => dutyTok ER (dmaC 0 j c) 0 0)
    ∗ (bigSep Finset.univ fun j : Fin 3 => dutyTok ER (dmaC 1 j (shift j.succ c)) 0 0)
    ∗ (bigSep Finset.univ fun j : Fin 3 => dutyTok ER (dmaC 2 j c) 0 0)
    ∗ (bigSep Finset.univ fun j : Fin 3 => dutyTok ER (dmaC 3 j (shift j.succ c)) 0 0))

/-- A device's place in the protocol: at the first round of its own cells, its tokens in hand. -/
def place (c : Dev nD) : sProp 𝕄 := iprop((bigSep Finset.univ fun k : Slot => atPos ER (cellAt c k) 0 ∅ 0) ∗ payToks c)

def ghost (K : Dev nD × Slot → ℕ) (c : Dev nD) : sProp 𝕄 := iprop(records m K ∗ place c)

/-- The units a device is to receive. -/
def credits (c : Dev nD) : sProp 𝕄 :=
  iprop(cred (tallyAt (barC c) () 3) ∗ (bigSep Finset.univ fun j : Fin 3 => cred (tallyAt (dmaC 1 j c) () N))
    ∗ bigSep Finset.univ fun j : Fin 3 => cred (tallyAt (dmaC 3 j c) () N))

def start (c : Dev nD) : sProp 𝕄 := iprop((∃ K, ghost m K c) ∗ credits c ∗ levAts L lv)

end Cert.KernelIdeal.Mesh

end
-- ==== Proof.KernelIdealSteps.lean ====
/-
# One rule per step of a device's body

Each theorem here carries a device over one operation of the kernel: a barrier signal, the barrier wait, a transfer of
partial rows, a transfer of finished rows, a wait on a transfer's semaphore, a load, the store. They are stated for the
`j`-th peer, so the body uses each of them three times. An operation's views and destinations are variables with an
equation, which the body supplies from the closed forms of the printed offsets and device numbers.
-/
module

public import proofs.«01_k».proof.Proof.KernelIdealProtocol

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Slot → ℕ) (c : Dev nD)

/-- `c` has `n` payments still to make, whatever it has waited on. -/
def own (n : ℕ) : sProp 𝕄 := iprop(∃ W, owes (c : Thread nD τ) (dues n c) W)

section Steps

variable {α : Type}

/-- The rest of a program run by `c`, with post-condition `Q`. -/
abbrev goes (p : Prog (TpuEff nD τ sig (Elt F) Λ₀ .tc) α) (Q : α → sProp 𝕄) : sProp 𝕄 :=
  wp frame (wpE (defs₀ (F := F)) 𝒱₀ (c : Thread nD τ) none) Set.univ p Q

/-- The `j`-th barrier signal hands over slot `j` (counted from the end) and the peer's rows of the result. -/
theorem signal_step {Q : α → sProp 𝕄} (j : Fin 3) (n : ℕ) (hn : payment c n = tallyAt (barC (shift j.succ c)) () 1)
    {d : Dev nD} (hd : d = shift j.succ c) {u : ℕ} (hu : u = 1) {k : PUnit → Prog (TpuEff nD τ sig (Elt F) Λ₀ .tc) α} :
    iprop(records m K ∗ own c (n + 1) ∗ dutyTok ER (barC (shift j.succ c)) 0 (Fin.rev j)
        ∗ (∃ f, rPts c (Fin.rev j) f) ∗ ∃ f, oPts fullShare c (row c + j.succ) f)
      ⊢ iprop((own c n -∗ goes c (k ⟨⟩) Q) -∗ goes c (.op (.semSignal (d : Thread nD τ) barS u) k) Q) := by
  subst hd hu
  have hpay : (sched (F := F) m).payload (barC (shift j.succ c)) 0 (Fin.rev j)
      = iprop((∃ f, rPts c (Fin.rev j) f) ∗ ∃ f, oPts fullShare c (row c + j.succ) f) := by
    rw [payload_at]
    show barPay (shift j.succ c) (Fin.rev j) = _
    unfold barPay
    rw [shift_rev_shift, row_shift]
  iintro ⟨#HR, Ho, Ht, Hr, Hx⟩ Hk
  unfold own
  icases Ho with ⟨%W, HO⟩
  iapply (Rounds.wp_signal 𝒱₀ ER (sched m) (c : Thread nD τ) none (dst := (shift j.succ c : Thread nD τ)) (sem := barS)
      (κ := K (shift j.succ c, none)) (d := Fin.rev j) (r := 0)
      (by rw [show (((shift j.succ c : Thread nD τ), SemLoc.reg barS) : GSem nD τ sig) = cellAt (shift j.succ c) none from rfl, duties_at]; exact Finset.mem_univ _)
      (k' := 1) ((amount_at m (shift j.succ c) none 0 (Fin.rev j)).trans rfl) () (dues n c) ((dues_succ n c).trans (congrArg (dues n c + ·) hn)) (W := W)) $$ [HO Ht Hr Hx]
  · isplitr; · iapply (records_inv m K (shift j.succ c) none); iexact HR
    isplitl [HO]; · iexact HO
    isplitl [Ht]; · iexact Ht
    isplitl [Hr Hx]
    · rw [show (((shift j.succ c : Thread nD τ), SemLoc.reg barS) : GSem nD τ sig) = barC (shift j.succ c) from rfl, hpay]
      isplitl [Hr]; · iexact Hr
      iexact Hx
    iapply (records_reached m K (shift j.succ c) none); iexact HR
  iintro HO
  iapply Hk
  iexists W; iexact HO

/-- The barrier wait: the three peers' slots and rows arrive, and the barrier semaphore is at zero for good. -/
theorem barrier_step {Q : α → sProp 𝕄} (n : ℕ) (hlev : ∀ i < n, 1 < slotLev (some (paySlot i))) {u : ℕ} (hu : u = 3)
    {k : PUnit → Prog (TpuEff nD τ sig (Elt F) Λ₀ .tc) α} :
    iprop(records m K ∗ levAts L lv ∗ cred (tallyAt (barC c) () 3) ∗ own c n ∗ atPos ER (barC c) 0 ∅ 0)
      ⊢ iprop(((own c n ∗ semVal (barC c) 0 ∗ barPay c 0 ∗ barPay c 1 ∗ barPay c 2) -∗ goes c (k ⟨⟩) Q)
          -∗ goes c (.op (.semWait barS u) k) Q) := by
  subst hu
  have hrest : bigSep ((sched (F := F) m).duties ((c : Thread nD τ), .reg barS) 0 \ ∅)
      (fun d => (sched (F := F) m).payload ((c : Thread nD τ), .reg barS) 0 d) = iprop(barPay c 0 ∗ barPay c 1 ∗ barPay c 2) := rest_bar m c
  iintro ⟨#HR, #Hlev, Hc, Ho, Hat⟩ Hk
  ihave #HI := (records_inv m K c none) $$ HR
  unfold own
  icases Ho with ⟨%W, HO⟩
  iapply (Rounds.wp_wait_rest_token 𝒱₀ ER (sched m) (c : Thread nD τ) none (sm := .reg barS) (κ := K (c, none))
      (wpE_semWait_eq 𝒱₀ (c : Thread nD τ) none Set.univ) (Set.mem_univ _) () (O := dues n c) (W := W) (R := 0) (m := 0) (T := ∅)
      ((Nat.zero_add 3).trans (expect_bar m c).symm)) $$ [Hc HO Hat]
  · isplitr; · iexact HI
    isplitl [Hc]; · iexact Hc
    isplitl [HO]; · iexact HO
    isplitr; · iapply (mayWait n c (.reg barS) (by rw [slotOf_bar]; exact hlev)); iexact Hlev
    iexact Hat
  iintro ⟨HO, Hat, -, Hpay⟩
  ihave Hp := (Entails.of_eq hrest) $$ Hpay
  imod (Rounds.cell_close ER (sched m) (Set.mem_univ (K (c, none))) (fun h => h) (R := 0 + 1) (duties_later m (barC c))) $$ [Hat] with Hz
  · isplitr; · iexact HI
    iexact Hat
  iapply Hk
  isplitl [HO]; · iexists _; iexact HO
  isplitl [Hz]; · iexact Hz
  iexact Hp

/-- A wait on a transfer's semaphore: its payload arrives, and the semaphore is at zero for good. -/
theorem arrival_step {Q : α → sProp 𝕄} (a : Fin 4) (j : Fin 3) (n : ℕ) (hlev : ∀ i < n, slotLev (some (some (a, j))) < slotLev (some (paySlot i)))
    {q : DmaSem sig} (hq : q = dsem a j) {sp sp' : Space} {s s' : Shape} {e e' : EltTy}
    {src : Memref sig (c : Thread nD τ).2.kind sp' s' e'} {κ' : Kind} {dst : Memref sig κ' sp s e}
    {hsrc : src.view.WordExact} {hdst : dst.view.WordExact} (hN : dst.view.dmaCredit = N)
    {k : PUnit → Prog (TpuEff nD τ sig (Elt F) Λ₀ .tc) α} :
    iprop(records m K ∗ levAts L lv ∗ cred (tallyAt (dmaC a j c) () N) ∗ own c n ∗ atPos ER (dmaC a j c) 0 ∅ 0)
      ⊢ iprop(((own c n ∗ semVal (dmaC a j c) 0 ∗ dmaPay m a j c) -∗ goes c (k ⟨⟩) Q)
          -∗ goes c (.op (.waitDma2 q src dst hsrc hdst) k) Q) := by
  subst hq
  have hrest : bigSep ((sched (F := F) m).duties ((c : Thread nD τ), .dma (dsem a j)) 0 \ ∅)
      (fun d => (sched (F := F) m).payload ((c : Thread nD τ), .dma (dsem a j)) 0 d) = dmaPay m a j c := rest_dma m c a j
  iintro ⟨#HR, #Hlev, Hc, Ho, Hat⟩ Hk
  ihave #HI := (records_inv m K c (some (a, j))) $$ HR
  unfold own
  icases Ho with ⟨%W, HO⟩
  iapply (Rounds.wp_wait_rest_token 𝒱₀ ER (sched m) (c : Thread nD τ) none (sm := .dma (dsem a j)) (k' := N) (κ := K (c, some (a, j)))
      (fun K' => (wpE_waitDma2_eq 𝒱₀ (c : Thread nD τ) none Set.univ K').trans (by rw [hN])) (Set.mem_univ _) ()
      (O := dues n c) (W := W) (R := 0) (m := 0) (T := ∅)
      ((Nat.zero_add N).trans (expect_dma m c a j).symm)) $$ [Hc HO Hat]
  · isplitr; · iexact HI
    isplitl [Hc]; · iexact Hc
    isplitl [HO]; · iexact HO
    isplitr; · iapply (mayWait n c (.dma (dsem a j)) (by rw [slotOf_dma]; exact hlev)); iexact Hlev
    iexact Hat
  iintro ⟨HO, Hat, -, Hpay⟩
  ihave Hp := (Entails.of_eq hrest) $$ Hpay
  imod (Rounds.cell_close ER (sched m) (Set.mem_univ (K (c, some (a, j)))) (fun h => h) (R := 0 + 1) (duties_later m (dmaC a j c))) $$ [Hat] with Hz
  · isplitr; · iexact HI
    iexact Hat
  iapply Hk
  isplitl [HO]; · iexists _; iexact HO
  isplitl [Hz]; · iexact Hz
  iexact Hp

theorem mem_duties_dma (a : Fin 4) (j : Fin 3) : (0 : Fin 3) ∈ (sched (F := F) m).duties (dmaC a j c) 0 := by
  rw [duties_at]; exact Finset.mem_singleton_self _
theorem amount_dma (a : Fin 4) (j : Fin 3) : (sched (F := F) m).amount (dmaC a j c) 0 0 = N :=
  (amount_at m c (some (a, j)) 0 0).trans (if_neg (fun h => by cases h))

/-- Once sent, the partial rows come back to `c` through the sending semaphore. -/
theorem sent_partial (j : Fin 3) :
    (((xV (row c + j.succ)).view.loc (c : Thread nD τ) ↦[(xV (row c + j.succ)).view.set]{fullShare} xAt m c) : sProp 𝕄)
      ⊢ (sched (F := F) m).payload ((c : Thread nD τ), .dma (dsem 0 j)) 0 0 :=
  Entails.of_eq (Eq.trans (by unfold dmaPay xPts; rfl : _ = dmaPay m 0 j c) (payload_at m c (some (0, j)) 0 0).symm)
/-- The slot the partial rows land in holds what the peer's receiving semaphore promises. -/
theorem came_partial (j : Fin 3) (fd : (cc0_scratch0 : Ref sig .tc).ty.Contents (Elt F)) :
    (((rV j).view.loc (shift j.succ c : Thread nD τ) ↦[(rV j).view.set]{fullShare}
        ((rV j).view.write (Elt F) fd ((xV (row c + j.succ)).view.read (Elt F) (xAt m c)) Finset.univ)) : sProp 𝕄)
      ⊢ (sched (F := F) m).payload ((shift j.succ c : Thread nD τ), .dma (dsem 1 j)) 0 0 :=
  Entails.of_eq (Eq.trans (by unfold dmaPay rPts; exact pointsTo_congr (landed_recv m j c fd) : _ = dmaPay m 1 j (shift j.succ c))
    (payload_at m (shift j.succ c) (some (1, j)) 0 0).symm)
/-- Once sent, the share of the finished rows comes back to `c` through the sending semaphore. -/
theorem sent_finished (j : Fin 3) :
    (((oV (row c)).view.loc (c : Thread nD τ) ↦[(oV (row c)).view.set]{part j} outAt m c) : sProp 𝕄)
      ⊢ (sched (F := F) m).payload ((c : Thread nD τ), .dma (dsem 2 j)) 0 0 :=
  Entails.of_eq (Eq.trans (by unfold dmaPay oPts; rfl : _ = dmaPay m 2 j c) (payload_at m c (some (2, j)) 0 0).symm)
/-- The rows the finished rows land in hold what the peer's receiving semaphore promises. -/
theorem came_finished (j : Fin 3) (fd : (cc0_stg3_0 : Ref sig .tc).ty.Contents (Elt F)) :
    (((oV (row c)).view.loc (shift j.succ c : Thread nD τ) ↦[(oV (row c)).view.set]{fullShare}
        ((oV (row c)).view.write (Elt F) fd ((oV (row c)).view.read (Elt F) (outAt m c)) Finset.univ)) : sProp 𝕄)
      ⊢ (sched (F := F) m).payload ((shift j.succ c : Thread nD τ), .dma (dsem 3 j)) 0 0 := by
  refine Entails.of_eq (Eq.trans ?_ (payload_at m (shift j.succ c) (some (3, j)) 0 0).symm)
  show _ = oPts fullShare (shift j.succ c) (row (shift (Fin.rev j).succ (shift j.succ c))) (outAt m (shift j.succ c))
  rw [shift_rev_shift, outAt_shift]
  unfold oPts
  exact pointsTo_congr (landed_out (row c) fd (outAt m c))

/-- Every transfer moves the same number of units. -/
theorem amount_slot (j j' : Fin 3) : (rV j).view.amount (.dma (dsem 1 j')) = N := rfl
theorem amount_rows (b : Fin 4) (j' : Fin 3) : (oV b).view.amount (.dma (dsem 3 j')) = N := rfl

/-- The rule of a transfer at the cells of the `j`-th transfer of partial rows. -/
theorem partial_raw {Q : α → sProp 𝕄} (j : Fin 3) (n : ℕ) (hn : payment c n = tallyAt (dmaC 1 j (shift j.succ c)) () N) (W : Waits sig Unit)
    (fd : (cc0_scratch0 : Ref sig .tc).ty.Contents (Elt F))
    {hsc : (rV j : Memref sig (Dev.tc (shift j.succ c) : Thread nD τ).2.kind .vmem S128x512 .f32).view.ref.isScScratch = false}
    {hsrc : (xV (row c + j.succ)).view.WordExact} {hdst : (rV j).view.WordExact}
    {hsem : DmaTarget.Typed .vmem (.dma (dsem 1 j)) (.remote (Dev.tc (shift j.succ c) : Thread nD τ)
      (rV j : Memref sig (Dev.tc (shift j.succ c) : Thread nD τ).2.kind .vmem S128x512 .f32) (.dma (dsem 0 j)) hsc)}
    {k : PUnit → Prog (TpuEff nD τ sig (Elt F) Λ₀ .tc) α} :
    iprop(cellInv ER (sched m) (K (c, some (0, j))) (dmaC 0 j c)
        ∗ cellInv ER (sched m) (K (shift j.succ c, some (1, j))) (dmaC 1 j (shift j.succ c))
        ∗ xPts m c (row c + j.succ) ∗ rPts (shift j.succ c) j fd ∗ owes (c : Thread nD τ) (dues (n + 1) c) W
        ∗ dutyTok ER (dmaC 0 j c) 0 0 ∗ reached ER (dmaC 0 j c) 0
        ∗ dutyTok ER (dmaC 1 j (shift j.succ c)) 0 0 ∗ reached ER (dmaC 1 j (shift j.succ c)) 0)
      ⊢ iprop(((cred (tallyAt (dmaC 0 j c) () N) ∗ owes (c : Thread nD τ) (dues n c) W) -∗ goes c (k ⟨⟩) Q)
          -∗ goes c (.op (.enqueueDma (xV (row c + j.succ)) (.remote (Dev.tc (shift j.succ c) : Thread nD τ) (rV j) (.dma (dsem 0 j)) hsc)
            (.dma (dsem 1 j)) hsrc hdst hsem) k) Q) := by
  unfold xPts rPts
  exact Rounds.wp_send_pointsTo 𝒱₀ ER (sched m) (c : Thread nD τ) none (c' := (shift j.succ c : Thread nD τ)) (src := xV (row c + j.succ))
    (dst := rV j) (sS := .dma (dsem 0 j)) (sem := .dma (dsem 1 j)) (κ₁ := K (c, some (0, j))) (κ₂ := K (shift j.succ c, some (1, j)))
    (hsc := hsc) (hsrc := hsrc) (hdst := hdst) (hsem := hsem) (k := k) (Q := Q)
    (r₁ := 0) (r₂ := 0) (d₁ := 0) (d₂ := 0) (fs := xAt m c) (fd := fd) (q := fullShare)
    (mem_duties_dma m c 0 j) (mem_duties_dma m (shift j.succ c) 1 j) () () N (amount_slot j j)
    (amount_dma m c 0 j) (amount_dma m (shift j.succ c) 1 j) (dues n c) ((dues_succ n c).trans (congrArg (dues n c + ·) hn)) (W := W)
    (sent_partial m c j) (came_partial m c j fd)

/-- The `j`-th transfer of partial rows: the peer's rows of `c`'s partial sums into the `j`-th slot of the peer's buffer. -/
theorem partial_step {Q : α → sProp 𝕄} (j : Fin 3) (n : ℕ) (hn : payment c n = tallyAt (dmaC 1 j (shift j.succ c)) () N)
    {d : Dev nD} (hd : d = shift j.succ c)
    {src : Memref sig .tc .vmem S128x512 .f32} (hs : src = xV (row c + j.succ))
    {dst : Memref sig (Dev.tc d : Thread nD τ).2.kind .vmem S128x512 .f32} (ht : dst = rV j)
    {q q' : DmaSem sig} (hq : q = dsem 0 j) (hq' : q' = dsem 1 j)
    {hsc : dst.view.ref.isScScratch = false} {hsrc : src.view.WordExact} {hdst : dst.view.WordExact}
    {hsem : DmaTarget.Typed .vmem (.dma q') (.remote (Dev.tc d : Thread nD τ) dst (.dma q) hsc)}
    {k : PUnit → Prog (TpuEff nD τ sig (Elt F) Λ₀ .tc) α} :
    iprop(records m K ∗ own c (n + 1) ∗ xPts m c (row c + j.succ) ∗ (∃ f, rPts (shift j.succ c) j f)
        ∗ dutyTok ER (dmaC 0 j c) 0 0 ∗ dutyTok ER (dmaC 1 j (shift j.succ c)) 0 0)
      ⊢ iprop(((cred (tallyAt (dmaC 0 j c) () N) ∗ own c n) -∗ goes c (k ⟨⟩) Q)
          -∗ goes c (.op (.enqueueDma src (.remote (Dev.tc d : Thread nD τ) dst (.dma q) hsc) (.dma q') hsrc hdst hsem) k) Q) := by
  subst hd hs hq hq'
  subst ht
  iintro ⟨#HR, Ho, Hx, ⟨%fd, Hr⟩, Ht, Ht'⟩ Hk
  unfold own
  icases Ho with ⟨%W, HO⟩
  iapply (partial_raw m K c j n hn W fd) $$ [HO Hx Hr Ht Ht']
  · isplitr; · iapply (records_inv m K c (some (0, j))); iexact HR
    isplitr; · iapply (records_inv m K (shift j.succ c) (some (1, j))); iexact HR
    isplitl [Hx]; · iexact Hx
    isplitl [Hr]; · iexact Hr
    isplitl [HO]; · iexact HO
    isplitl [Ht]; · iexact Ht
    isplitr; · iapply (records_reached m K c (some (0, j))); iexact HR
    isplitl [Ht']; · iexact Ht'
    iapply (records_reached m K (shift j.succ c) (some (1, j))); iexact HR
  iintro ⟨Hc, HO⟩
  iapply Hk
  isplitl [Hc]; · iexact Hc
  iexists W; iexact HO

/-- The rule of a transfer at the cells of the `j`-th transfer of finished rows. -/
theorem finished_raw {Q : α → sProp 𝕄} (j : Fin 3) (n : ℕ) (hn : payment c n = tallyAt (dmaC 3 j (shift j.succ c)) () N) (W : Waits sig Unit)
    (fd : (cc0_stg3_0 : Ref sig .tc).ty.Contents (Elt F))
    {hsc : (oV (row c) : Memref sig (Dev.tc (shift j.succ c) : Thread nD τ).2.kind .vmem S128x512 .f32).view.ref.isScScratch = false}
    {hsrc : (oV (row c)).view.WordExact} {hdst : (oV (row c)).view.WordExact}
    {hsem : DmaTarget.Typed .vmem (.dma (dsem 3 j)) (.remote (Dev.tc (shift j.succ c) : Thread nD τ)
      (oV (row c) : Memref sig (Dev.tc (shift j.succ c) : Thread nD τ).2.kind .vmem S128x512 .f32) (.dma (dsem 2 j)) hsc)}
    {k : PUnit → Prog (TpuEff nD τ sig (Elt F) Λ₀ .tc) α} :
    iprop(cellInv ER (sched m) (K (c, some (2, j))) (dmaC 2 j c)
        ∗ cellInv ER (sched m) (K (shift j.succ c, some (3, j))) (dmaC 3 j (shift j.succ c))
        ∗ oPts (part j) c (row c) (outAt m c) ∗ oPts fullShare (shift j.succ c) (row c) fd ∗ owes (c : Thread nD τ) (dues (n + 1) c) W
        ∗ dutyTok ER (dmaC 2 j c) 0 0 ∗ reached ER (dmaC 2 j c) 0
        ∗ dutyTok ER (dmaC 3 j (shift j.succ c)) 0 0 ∗ reached ER (dmaC 3 j (shift j.succ c)) 0)
      ⊢ iprop(((cred (tallyAt (dmaC 2 j c) () N) ∗ owes (c : Thread nD τ) (dues n c) W) -∗ goes c (k ⟨⟩) Q)
          -∗ goes c (.op (.enqueueDma (oV (row c)) (.remote (Dev.tc (shift j.succ c) : Thread nD τ) (oV (row c)) (.dma (dsem 2 j)) hsc)
            (.dma (dsem 3 j)) hsrc hdst hsem) k) Q) := by
  unfold oPts
  exact Rounds.wp_send_pointsTo 𝒱₀ ER (sched m) (c : Thread nD τ) none (c' := (shift j.succ c : Thread nD τ)) (src := oV (row c))
    (dst := oV (row c)) (sS := .dma (dsem 2 j)) (sem := .dma (dsem 3 j)) (κ₁ := K (c, some (2, j))) (κ₂ := K (shift j.succ c, some (3, j)))
    (hsc := hsc) (hsrc := hsrc) (hdst := hdst) (hsem := hsem) (k := k) (Q := Q)
    (r₁ := 0) (r₂ := 0) (d₁ := 0) (d₂ := 0) (fs := outAt m c) (fd := fd) (q := part j)
    (mem_duties_dma m c 2 j) (mem_duties_dma m (shift j.succ c) 3 j) () () N (amount_rows (row c) j)
    (amount_dma m c 2 j) (amount_dma m (shift j.succ c) 3 j) (dues n c) ((dues_succ n c).trans (congrArg (dues n c + ·) hn)) (W := W)
    (sent_finished m c j) (came_finished m c j fd)

/-- The `j`-th transfer of finished rows: `c`'s own rows of the result, into the same rows of the peer's result. -/
theorem finished_step {Q : α → sProp 𝕄} (j : Fin 3) (n : ℕ) (hn : payment c n = tallyAt (dmaC 3 j (shift j.succ c)) () N)
    {d : Dev nD} (hd : d = shift j.succ c)
    {src : Memref sig .tc .vmem S128x512 .f32} (hs : src = oV (row c))
    {dst : Memref sig (Dev.tc d : Thread nD τ).2.kind .vmem S128x512 .f32} (ht : dst = oV (row c))
    {q q' : DmaSem sig} (hq : q = dsem 2 j) (hq' : q' = dsem 3 j)
    {hsc : dst.view.ref.isScScratch = false} {hsrc : src.view.WordExact} {hdst : dst.view.WordExact}
    {hsem : DmaTarget.Typed .vmem (.dma q') (.remote (Dev.tc d : Thread nD τ) dst (.dma q) hsc)}
    {k : PUnit → Prog (TpuEff nD τ sig (Elt F) Λ₀ .tc) α} :
    iprop(records m K ∗ own c (n + 1) ∗ oPts (part j) c (row c) (outAt m c) ∗ (∃ f, oPts fullShare (shift j.succ c) (row c) f)
        ∗ dutyTok ER (dmaC 2 j c) 0 0 ∗ dutyTok ER (dmaC 3 j (shift j.succ c)) 0 0)
      ⊢ iprop(((cred (tallyAt (dmaC 2 j c) () N) ∗ own c n) -∗ goes c (k ⟨⟩) Q)
          -∗ goes c (.op (.enqueueDma src (.remote (Dev.tc d : Thread nD τ) dst (.dma q) hsc) (.dma q') hsrc hdst hsem) k) Q) := by
  subst hd hs hq hq'
  subst ht
  iintro ⟨#HR, Ho, Hx, ⟨%fd, Hr⟩, Ht, Ht'⟩ Hk
  unfold own
  icases Ho with ⟨%W, HO⟩
  iapply (finished_raw m K c j n hn W fd) $$ [HO Hx Hr Ht Ht']
  · isplitr; · iapply (records_inv m K c (some (2, j))); iexact HR
    isplitr; · iapply (records_inv m K (shift j.succ c) (some (3, j))); iexact HR
    isplitl [Hx]; · iexact Hx
    isplitl [Hr]; · iexact Hr
    isplitl [HO]; · iexact HO
    isplitl [Ht]; · iexact Ht
    isplitr; · iapply (records_reached m K c (some (2, j))); iexact HR
    isplitl [Ht']; · iexact Ht'
    iapply (records_reached m K (shift j.succ c) (some (3, j))); iexact HR
  iintro ⟨Hc, HO⟩
  iapply Hk
  isplitl [Hc]; · iexact Hc
  iexists W; iexact HO

/-! ### Loads and the store -/

/-- The load of a row block of the partial sums. -/
theorem load_x_step {Q : α → sProp 𝕄} (b : Fin 4) {off : Fin 3 → Nat} (h : off = ![0, 128 * b.val, 0])
    {hin : ∀ a, off a + S1x128x512.size a ≤ S1x512x512.size a}
    {hl : xM.view.LoadsAt (Rect.unit (s := S1x512x512) off S1x128x512.size hin).toLoadRect}
    {k : (S1x128x512.Idx → Elt F .f32) → Prog (TpuEff nD τ sig (Elt F) Λ₀ .tc) α} :
    xPts m c b ⊢ iprop((xPts m c b -∗ goes c (k ((xM.access (xR b)).read (Elt F) (xAt m c))) Q)
      -∗ goes c (.op (.load xM (Rect.unit (s := S1x512x512) off S1x128x512.size hin).toLoadRect hl) k) Q) := by
  subst h
  unfold xPts
  exact wp_load_rect 𝒱₀ (c : Thread nD τ) none Set.univ (m := xM) (r := xR b)
    (by rw [xS, View.set_reshape])

/-- The load of a slot of the receive buffer. -/
theorem load_slot_step {Q : α → sProp 𝕄} (j : Fin 3) {off : Fin 3 → Nat} (h : off = ![j.val, 0, 0])
    {hin : ∀ a, off a + S1x128x512.size a ≤ S3x128x512.size a}
    {hl : rM.view.LoadsAt (Rect.unit (s := S3x128x512) off S1x128x512.size hin).toLoadRect}
    {k : (S1x128x512.Idx → Elt F .f32) → Prog (TpuEff nD τ sig (Elt F) Λ₀ .tc) α} {f} :
    (rPts c j f : sProp 𝕄) ⊢ iprop((rPts c j f -∗ goes c (k ((rM.access (rR j)).read (Elt F) f)) Q)
      -∗ goes c (.op (.load rM (Rect.unit (s := S3x128x512) off S1x128x512.size hin).toLoadRect hl) k) Q) := by
  subst h
  unfold rPts
  exact wp_load_rect 𝒱₀ (c : Thread nD τ) none Set.univ (m := rM) (r := rR j)
    (by rw [rS, View.set_reshape])

/-- The load of a row block of the residual. -/
theorem load_s_step {Q : α → sProp 𝕄} (b : Fin 4) {off : Fin 2 → Nat} (h : off = ![128 * b.val, 0])
    {hin : ∀ a, off a + S128x512.size a ≤ S512x512.size a}
    {hl : sM.view.LoadsAt (Rect.unit (s := S512x512) off S128x512.size hin).toLoadRect}
    {k : (S128x512.Idx → Elt F .f32) → Prog (TpuEff nD τ sig (Elt F) Λ₀ .tc) α} {f : Buf (Elt F) ((c : Thread nD τ).loc cc0_stg1_0)} :
    (((c : Thread nD τ).loc cc0_stg1_0 ↦{fullShare} f : sProp 𝕄))
      ⊢ iprop((((c : Thread nD τ).loc cc0_stg1_0 ↦{fullShare} f) -∗ goes c (k ((sM.access (oR b)).read (Elt F) f)) Q)
        -∗ goes c (.op (.load sM (Rect.unit (s := S512x512) off S128x512.size hin).toLoadRect hl) k) Q) := by
  subst h
  exact wp_load_rect 𝒱₀ (c : Thread nD τ) none Set.univ (m := sM) (r := oR b) (Finset.subset_univ _)

/-- The load of the scale vector. -/
theorem load_g_step {Q : α → sProp 𝕄} {hl : gM.view.LoadsAt (Rect.unit (s := S512) ![0] S512.size inb_S512_S512_0).toLoadRect}
    {k : (S512.Idx → Elt F .f32) → Prog (TpuEff nD τ sig (Elt F) Λ₀ .tc) α} {f : Buf (Elt F) ((c : Thread nD τ).loc cc0_stg2_0)} :
    (((c : Thread nD τ).loc cc0_stg2_0 ↦{fullShare} f : sProp 𝕄))
      ⊢ iprop((((c : Thread nD τ).loc cc0_stg2_0 ↦{fullShare} f)
          -∗ goes c (k ((gM.access (Rect.unit (s := S512) ![0] S512.size inb_S512_S512_0)).read (Elt F) f)) Q)
        -∗ goes c (.op (.load gM (Rect.unit (s := S512) ![0] S512.size inb_S512_S512_0).toLoadRect hl) k) Q) := by
  exact wp_load_rect 𝒱₀ (c : Thread nD τ) none Set.univ (m := gM) (r := Rect.unit (s := S512) ![0] S512.size inb_S512_S512_0) (Finset.subset_univ _)

/-- The load of a row block of the result (the kernel drops what it reads). -/
theorem load_o_step {Q : α → sProp 𝕄} (b : Fin 4) {off : Fin 2 → Nat} (h : off = ![128 * b.val, 0])
    {hin : ∀ a, off a + S128x512.size a ≤ S512x512.size a}
    {hl : oM.view.LoadsAt (Rect.unit (s := S512x512) off S128x512.size hin).toLoadRect}
    {k : (S128x512.Idx → Elt F .f32) → Prog (TpuEff nD τ sig (Elt F) Λ₀ .tc) α} {f} :
    (oPts fullShare c b f : sProp 𝕄) ⊢ iprop((oPts fullShare c b f -∗ goes c (k ((oM.access (oR b)).read (Elt F) f)) Q)
        -∗ goes c (.op (.load oM (Rect.unit (s := S512x512) off S128x512.size hin).toLoadRect hl) k) Q) := by
  subst h
  unfold oPts
  exact wp_load_rect 𝒱₀ (c : Thread nD τ) none Set.univ (m := oM) (r := oR b) (Finset.Subset.refl _)

/-- The store of `c`'s own finished rows: the result is in place on them. -/
theorem store_step {Q : α → sProp 𝕄} {off : Fin 2 → Nat} (h : off = ![128 * (row c).val, 0])
    {hin : ∀ a, off a + S128x512.size a ≤ S512x512.size a} {w : S128x512.Idx → Elt F .f32} (hw : w = chunk m c)
    {hx : (oM.access (Rect.unit (s := S512x512) off S128x512.size hin)).Stores Finset.univ} {hm}
    {k : PUnit → Prog (TpuEff nD τ sig (Elt F) Λ₀ .tc) α} {f} :
    (oPts fullShare c (row c) f : sProp 𝕄) ⊢ iprop((oPts fullShare c (row c) (outAt m c) -∗ goes c (k ⟨⟩) Q)
        -∗ goes c (.op (.store oM (Rect.unit (s := S512x512) off S128x512.size hin) w Finset.univ hx hm) k) Q) := by
  subst h hw
  have he : (oPts fullShare c (row c) ((oM.access (oR (row c))).write (Elt F) f (chunk m c) Finset.univ) : sProp 𝕄)
      = oPts fullShare c (row c) (outAt m c) := pointsTo_congr (stored_out m c f)
  rw [← he]
  unfold oPts
  exact wp_store 𝒱₀ (c : Thread nD τ) none Set.univ (m := oM) (r := oR (row c)) (Mk := Finset.univ) (Finset.Subset.refl _)

end Steps

end Cert.KernelIdeal.Mesh

end
-- ==== Proof.KernelIdealBody.lean ====
/-
# The body of one device

`body_run` executes the body of the kernel on one device, operation by operation, from what the launch gives it
(its place in the protocol, the units it is to receive, its four staged operands, its receive buffer) to the result in
place, the operands unchanged and all thirteen semaphores at zero.
-/
module

public import proofs.«01_k».proof.Proof.KernelIdealSteps
public import proofs.«01_k».proof.Proof.Gen.KernelIdeal.Skeleton

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ) (c : Dev nD)

/-! ## Buffers in pieces -/

section Pieces
omit [FloatOps F]

/-- The four places of a group, counted from a device's own. -/
theorem over4 (Φ : Fin 4 → sProp 𝕄) : bigSep Finset.univ Φ
    = iprop(Φ 0 ∗ Φ (0 : Fin 3).succ ∗ Φ (1 : Fin 3).succ ∗ Φ (2 : Fin 3).succ) :=
  bigSep_univ_eq_bigSepL [(0 : Fin 4), (0 : Fin 3).succ, (1 : Fin 3).succ, (2 : Fin 3).succ] (by decide) (by decide) Φ
/-- The three peers. -/
theorem over3 (Φ : Fin 3 → sProp 𝕄) : bigSep Finset.univ Φ = iprop(Φ 0 ∗ Φ 1 ∗ Φ 2) :=
  bigSep_univ_eq_bigSepL [(0 : Fin 3), 1, 2] (by decide) (by decide) Φ
/-- The thirteen semaphores. -/
theorem over13 (Φ : Slot → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))
        ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

theorem add_zero4 : ∀ r : Fin 4, r + 0 = r := by decide

/-- The staged partial sums, by row blocks: the device's own, then its peers'. -/
theorem x_pieces : (((c : Thread nD τ).loc cc0_stg0_0 ↦{fullShare} xAt m c : sProp 𝕄))
    = iprop(xPts m c (row c) ∗ xPts m c (row c + (0 : Fin 3).succ) ∗ xPts m c (row c + (1 : Fin 3).succ) ∗ xPts m c (row c + (2 : Fin 3).succ)) := by
  rw [Ring.pointsTo_blocks (fun b : Fin 4 => xS (row c + b)) (rows_disj_x (row c)) (rows_cover_x (row c)), over4, add_zero4]
  rfl
/-- The staged result, by row blocks. -/
theorem o_pieces (f : Buf (Elt F) ((c : Thread nD τ).loc cc0_stg3_0)) : (((c : Thread nD τ).loc cc0_stg3_0 ↦{fullShare} f : sProp 𝕄))
    = iprop(oPts fullShare c (row c) f ∗ oPts fullShare c (row c + (0 : Fin 3).succ) f ∗ oPts fullShare c (row c + (1 : Fin 3).succ) f
        ∗ oPts fullShare c (row c + (2 : Fin 3).succ) f) := by
  rw [Ring.pointsTo_blocks (fun b : Fin 4 => oS (row c + b)) (rows_disj_o (row c)) (rows_cover_o (row c)), over4, add_zero4]
  rfl
/-- The receive buffer, by slots. -/
theorem r_pieces (f : Buf (Elt F) ((c : Thread nD τ).loc cc0_scratch0)) : (((c : Thread nD τ).loc cc0_scratch0 ↦{fullShare} f : sProp 𝕄))
    = iprop(rPts c 0 f ∗ rPts c 1 f ∗ rPts c 2 f) := by
  rw [Ring.pointsTo_blocks (fun j : Fin 3 => rS j) slots_disj slots_cover, over3]
  rfl
/-- A row block of the result, by the shares lent to the three transfers. -/
theorem o_shares (b : Fin 4) (f : Buf (Elt F) ((c : Thread nD τ).loc cc0_stg3_0)) :
    (oPts fullShare c b f : sProp 𝕄) ⊣⊢ iprop(oPts (part 0) c b f ∗ oPts (part 1) c b f ∗ oPts (part 2) c b f) := by
  have h1 : (oPts fullShare c b f : sProp 𝕄) ⊣⊢ iprop(oPts fullShare.left c b f ∗ oPts fullShare.right c b f) :=
    pointsTo_share (PosShare.mem_left_op_right fullShare)
  have h2 : (oPts fullShare.right c b f : sProp 𝕄) ⊣⊢ iprop(oPts fullShare.right.left c b f ∗ oPts fullShare.right.right c b f) :=
    pointsTo_share (PosShare.mem_left_op_right fullShare.right)
  exact h1.trans (sep_congr_right h2)

end Pieces

/-- The rows that arrive from the `j`-th peer, by their place counted from the device's own. -/
theorem came_rows (j : Fin 3) : (dmaPay m 3 j c : sProp 𝕄) = oPts fullShare c (row c + (Fin.rev j).succ) (outAt m c) := by
  show oPts fullShare c (row (shift (Fin.rev j).succ c)) (outAt m c) = _
  rw [row_shift]

/-! What a wait on a transfer's semaphore counts: as much as every transfer moves. -/

theorem credit_x {off : Fin 3 → Nat} {b : Fin 4} (h : off = ![0, 128 * b.val, 0])
    (inb : ∀ a, off a + S1x128x512.size a ≤ S1x512x512.size a) :
    ((xM.slice (Rect.unit (s := S1x512x512) off S1x128x512.size inb) (fun _ => rfl)).squeeze S128x512 squeezes_S1x128x512_S128x512).view.dmaCredit = N := rfl
theorem credit_o {off : Fin 2 → Nat} {b : Fin 4} (h : off = ![128 * b.val, 0])
    (inb : ∀ a, off a + S128x512.size a ≤ S512x512.size a) :
    (oM.slice (Rect.unit (s := S512x512) off S128x512.size inb) (fun _ => rfl)).view.dmaCredit = N := rfl
theorem credit_slot (j : Fin 3) : (rV j).view.dmaCredit = N := rfl

/-! ## The body -/

/-- What the body starts from. -/
def bodyPre : sProp 𝕄 :=
  iprop(ghost m K c ∗ credits c ∗ levAts L lv ∗ own c 9
    ∗ (∃ f, (c : Thread nD τ).loc cc0_scratch0 ↦{fullShare} f)
    ∗ ((c : Thread nD τ).loc cc0_stg0_0 ↦{fullShare} xAt m c) ∗ ((c : Thread nD τ).loc cc0_stg1_0 ↦{fullShare} sAt m c)
    ∗ ((c : Thread nD τ).loc cc0_stg2_0 ↦{fullShare} gAt m c) ∗ ∃ f, (c : Thread nD τ).loc cc0_stg3_0 ↦{fullShare} f)

/-- What the body ends with. -/
def bodyPost : sProp 𝕄 :=
  iprop((bigSep Finset.univ fun k : Slot => semVal (cellAt c k) 0) ∗ own c 0
    ∗ (∃ f, (c : Thread nD τ).loc cc0_scratch0 ↦{fullShare} f)
    ∗ ((c : Thread nD τ).loc cc0_stg0_0 ↦{fullShare} xAt m c) ∗ ((c : Thread nD τ).loc cc0_stg1_0 ↦{fullShare} sAt m c)
    ∗ ((c : Thread nD τ).loc cc0_stg2_0 ↦{fullShare} gAt m c) ∗ ((c : Thread nD τ).loc cc0_stg3_0 ↦{fullShare} outAt m c))

set_option maxHeartbeats 4000000 in
/-- The body of the kernel on device `c`, from `bodyPre` to `bodyPost`. -/
theorem body_run (Q : PUnit → sProp 𝕄) :
    iprop(bodyPre m K c ∗ (bodyPost m c -∗ Q ⟨⟩))
      ⊢ goes c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) cc0_scratch1 cc0_scratch2 cc0_scratch3 cc0_scratch4) Q := by
  rw [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [semSignalWord, semWaitWord, Prog.lift, Prog.bind_op, Prog.bind_ret, Prog.pure_eq_ret, wp_deviceId]
  unfold bodyPre ghost place payToks credits
  rw [over13, over3, over3, over3, over3, over3, over3, over3]
  iintro ⟨⟨⟨#HR, ⟨AB, A00, A01, A02, A10, A11, A12, A20, A21, A22, A30, A31, A32⟩, ⟨TB0, TB1, TB2⟩, ⟨T00, T01, T02⟩, ⟨T10, T11, T12⟩,
      ⟨T20, T21, T22⟩, ⟨T30, T31, T32⟩⟩, ⟨CB, ⟨C10, C11, C12⟩, ⟨C30, C31, C32⟩⟩, #HL, Ho, ⟨%fr, Hr⟩, Hx, Hs, Hg, ⟨%fo, Hout⟩⟩, Hk⟩
  -- the buffers in pieces
  ihave Hx' := (Entails.of_eq (x_pieces m c)) $$ Hx
  icases Hx' with ⟨X, X0, X1, X2⟩
  ihave Ho' := (Entails.of_eq (o_pieces c fo)) $$ Hout
  icases Ho' with ⟨O, O0, O1, O2⟩
  ihave Hr' := (Entails.of_eq (r_pieces c fr)) $$ Hr
  icases Hr' with ⟨R0, R1, R2⟩
  -- the three signals
  iapply (signal_step m K c 0 8 rfl (dev1_eq c) (by decide)) $$ [Ho TB0 R2 O0]
  · isplitr; · iexact HR
    isplitl [Ho]; · iexact Ho
    isplitl [TB0]; · iexact TB0
    isplitl [R2]; · iexists fr; iexact R2
    iexists fo; iexact O0
  iintro Ho
  iapply (signal_step m K c 1 7 rfl (dev2_eq c) (by decide)) $$ [Ho TB1 R1 O1]
  · isplitr; · iexact HR
    isplitl [Ho]; · iexact Ho
    isplitl [TB1]; · iexact TB1
    isplitl [R1]; · iexists fr; iexact R1
    iexists fo; iexact O1
  iintro Ho
  iapply (signal_step m K c 2 6 rfl (dev3_eq c) (by decide)) $$ [Ho TB2 R0 O2]
  · isplitr; · iexact HR
    isplitl [Ho]; · iexact Ho
    isplitl [TB2]; · iexact TB2
    isplitl [R0]; · iexists fr; iexact R0
    iexists fo; iexact O2
  iintro Ho
  -- the barrier: the peers' slots and rows
  iapply (barrier_step m K c 6 (by decide) (by decide)) $$ [CB Ho AB]
  · isplitr; · iexact HR
    isplitr; · iexact HL
    isplitl [CB]; · iexact CB
    isplitl [Ho]; · iexact Ho
    iexact AB
  unfold barPay
  iintro ⟨Ho, ZB, ⟨S0, P0⟩, ⟨S1, P1⟩, ⟨S2, P2⟩⟩
  -- the partial rows leave
  iapply (partial_step m K c 0 5 rfl (dev4_eq c) (xV_of_off (off1_eq 0 c) _) rfl rfl rfl) $$ [Ho X0 S0 T00 T10]
  · isplitr; · iexact HR
    isplitl [Ho]; · iexact Ho
    isplitl [X0]; · iexact X0
    isplitl [S0]; · iexact S0
    isplitl [T00]; · iexact T00
    iexact T10
  iintro ⟨C00, Ho⟩
  iapply (partial_step m K c 1 4 rfl (dev5_eq c) (xV_of_off (off1_eq 1 c) _) rfl rfl rfl) $$ [Ho X1 S1 T01 T11]
  · isplitr; · iexact HR
    isplitl [Ho]; · iexact Ho
    isplitl [X1]; · iexact X1
    isplitl [S1]; · iexact S1
    isplitl [T01]; · iexact T01
    iexact T11
  iintro ⟨C01, Ho⟩
  iapply (partial_step m K c 2 3 rfl (dev6_eq c) (xV_of_off (off1_eq 2 c) _) rfl rfl rfl) $$ [Ho X2 S2 T02 T12]
  · isplitr; · iexact HR
    isplitl [Ho]; · iexact Ho
    isplitl [X2]; · iexact X2
    isplitl [S2]; · iexact S2
    isplitl [T02]; · iexact T02
    iexact T12
  iintro ⟨C02, Ho⟩
  -- the peers' partial rows arrive
  iapply (arrival_step m K c 1 0 3 (by decide) rfl (credit_slot 0)) $$ [C10 Ho A10]
  · isplitr; · iexact HR
    isplitr; · iexact HL
    isplitl [C10]; · iexact C10
    isplitl [Ho]; · iexact Ho
    iexact A10
  iintro ⟨Ho, Z10, W10⟩
  iapply (arrival_step m K c 1 1 3 (by decide) rfl (credit_slot 1)) $$ [C11 Ho A11]
  · isplitr; · iexact HR
    isplitr; · iexact HL
    isplitl [C11]; · iexact C11
    isplitl [Ho]; · iexact Ho
    iexact A11
  iintro ⟨Ho, Z11, W11⟩
  iapply (arrival_step m K c 1 2 3 (by decide) rfl (credit_slot 2)) $$ [C12 Ho A12]
  · isplitr; · iexact HR
    isplitr; · iexact HL
    isplitl [C12]; · iexact C12
    isplitl [Ho]; · iexact Ho
    iexact A12
  iintro ⟨Ho, Z12, W12⟩
  -- the loads: own rows, the three slots, the residual
  iapply (load_x_step m c (row c) (off2_eq c)) $$ X; iintro X
  ihave W10 := (Entails.of_eq (show dmaPay m 1 0 c = rPts c 0 (recvAt m c) from rfl)) $$ W10
  iapply (load_slot_step c 0 rfl) $$ W10; iintro W10
  ihave W11 := (Entails.of_eq (show dmaPay m 1 1 c = rPts c 1 (recvAt m c) from rfl)) $$ W11
  iapply (load_slot_step c 1 rfl) $$ W11; iintro W11
  ihave W12 := (Entails.of_eq (show dmaPay m 1 2 c = rPts c 2 (recvAt m c) from rfl)) $$ W12
  iapply (load_slot_step c 2 rfl) $$ W12; iintro W12
  iapply (load_s_step c (row c) (off3_eq c)) $$ Hs; iintro Hs
  -- the scale, the dropped load, the store of the finished rows
  iapply (load_g_step c) $$ Hg; iintro Hg
  iapply (load_o_step c (row c) (off3_eq c)) $$ O; iintro O
  iapply (store_step m c (off3_eq c) rfl) $$ O; iintro O
  ihave O' := (o_shares c (row c) (outAt m c)).1 $$ O
  icases O' with ⟨U0, U1, U2⟩
  -- the finished rows leave
  iapply (finished_step m K c 0 2 rfl (dev7_eq c) (oV_of_off (off4_eq c) _) (oV_of_off (off4_eq c) _) rfl rfl) $$ [Ho U0 P0 T20 T30]
  · isplitr; · iexact HR
    isplitl [Ho]; · iexact Ho
    isplitl [U0]; · iexact U0
    isplitl [P0]; · iexact P0
    isplitl [T20]; · iexact T20
    iexact T30
  iintro ⟨C20, Ho⟩
  iapply (finished_step m K c 1 1 rfl (dev8_eq c) (oV_of_off (off4_eq c) _) (oV_of_off (off4_eq c) _) rfl rfl) $$ [Ho U1 P1 T21 T31]
  · isplitr; · iexact HR
    isplitl [Ho]; · iexact Ho
    isplitl [U1]; · iexact U1
    isplitl [P1]; · iexact P1
    isplitl [T21]; · iexact T21
    iexact T31
  iintro ⟨C21, Ho⟩
  iapply (finished_step m K c 2 0 rfl (dev9_eq c) (oV_of_off (off4_eq c) _) (oV_of_off (off4_eq c) _) rfl rfl) $$ [Ho U2 P2 T22 T32]
  · isplitr; · iexact HR
    isplitl [Ho]; · iexact Ho
    isplitl [U2]; · iexact U2
    isplitl [P2]; · iexact P2
    isplitl [T22]; · iexact T22
    iexact T32
  iintro ⟨C22, Ho⟩
  -- the peers' finished rows arrive
  iapply (arrival_step m K c 3 0 0 (by decide) rfl (credit_o (off4_eq c) _)) $$ [C30 Ho A30]
  · isplitr; · iexact HR
    isplitr; · iexact HL
    isplitl [C30]; · iexact C30
    isplitl [Ho]; · iexact Ho
    iexact A30
  iintro ⟨Ho, Z30, W30⟩
  iapply (arrival_step m K c 3 1 0 (by decide) rfl (credit_o (off4_eq c) _)) $$ [C31 Ho A31]
  · isplitr; · iexact HR
    isplitr; · iexact HL
    isplitl [C31]; · iexact C31
    isplitl [Ho]; · iexact Ho
    iexact A31
  iintro ⟨Ho, Z31, W31⟩
  iapply (arrival_step m K c 3 2 0 (by decide) rfl (credit_o (off4_eq c) _)) $$ [C32 Ho A32]
  · isplitr; · iexact HR
    isplitr; · iexact HL
    isplitl [C32]; · iexact C32
    isplitl [Ho]; · iexact Ho
    iexact A32
  iintro ⟨Ho, Z32, W32⟩
  -- the partial rows have left
  iapply (arrival_step m K c 0 0 0 (by decide) rfl (credit_x (off1_eq 0 c) _)) $$ [C00 Ho A00]
  · isplitr; · iexact HR
    isplitr; · iexact HL
    isplitl [C00]; · iexact C00
    isplitl [Ho]; · iexact Ho
    iexact A00
  iintro ⟨Ho, Z00, W00⟩
  iapply (arrival_step m K c 0 1 0 (by decide) rfl (credit_x (off1_eq 1 c) _)) $$ [C01 Ho A01]
  · isplitr; · iexact HR
    isplitr; · iexact HL
    isplitl [C01]; · iexact C01
    isplitl [Ho]; · iexact Ho
    iexact A01
  iintro ⟨Ho, Z01, W01⟩
  iapply (arrival_step m K c 0 2 0 (by decide) rfl (credit_x (off1_eq 2 c) _)) $$ [C02 Ho A02]
  · isplitr; · iexact HR
    isplitr; · iexact HL
    isplitl [C02]; · iexact C02
    isplitl [Ho]; · iexact Ho
    iexact A02
  iintro ⟨Ho, Z02, W02⟩
  -- the finished rows have left
  iapply (arrival_step m K c 2 0 0 (by decide) rfl (credit_o (off4_eq c) _)) $$ [C20 Ho A20]
  · isplitr; · iexact HR
    isplitr; · iexact HL
    isplitl [C20]; · iexact C20
    isplitl [Ho]; · iexact Ho
    iexact A20
  iintro ⟨Ho, Z20, W20⟩
  iapply (arrival_step m K c 2 1 0 (by decide) rfl (credit_o (off4_eq c) _)) $$ [C21 Ho A21]
  · isplitr; · iexact HR
    isplitr; · iexact HL
    isplitl [C21]; · iexact C21
    isplitl [Ho]; · iexact Ho
    iexact A21
  iintro ⟨Ho, Z21, W21⟩
  iapply (arrival_step m K c 2 2 0 (by decide) rfl (credit_o (off4_eq c) _)) $$ [C22 Ho A22]
  · isplitr; · iexact HR
    isplitr; · iexact HL
    isplitl [C22]; · iexact C22
    isplitl [Ho]; · iexact Ho
    iexact A22
  iintro ⟨Ho, Z22, W22⟩
  unfold goes; rw [wp_ret]; imodintro
  iapply Hk
  -- the pieces together
  ihave W00 := (Entails.of_eq (show dmaPay m 0 0 c = xPts m c (row c + (0 : Fin 3).succ) from rfl)) $$ W00
  ihave W20 := (Entails.of_eq (show dmaPay m 2 0 c = oPts (part 0) c (row c) (outAt m c) from rfl)) $$ W20
  ihave W01 := (Entails.of_eq (show dmaPay m 0 1 c = xPts m c (row c + (1 : Fin 3).succ) from rfl)) $$ W01
  ihave W21 := (Entails.of_eq (show dmaPay m 2 1 c = oPts (part 1) c (row c) (outAt m c) from rfl)) $$ W21
  ihave W02 := (Entails.of_eq (show dmaPay m 0 2 c = xPts m c (row c + (2 : Fin 3).succ) from rfl)) $$ W02
  ihave W22 := (Entails.of_eq (show dmaPay m 2 2 c = oPts (part 2) c (row c) (outAt m c) from rfl)) $$ W22
  ihave Hx := (Entails.of_eq (x_pieces m c).symm) $$ [X W00 W01 W02]
  · isplitl [X]; · iexact X
    isplitl [W00]; · iexact W00
    isplitl [W01]; · iexact W01
    iexact W02
  ihave Hr := (Entails.of_eq (r_pieces c (recvAt m c)).symm) $$ [W10 W11 W12]
  · isplitl [W10]; · iexact W10
    isplitl [W11]; · iexact W11
    iexact W12
  ihave O := (o_shares c (row c) (outAt m c)).2 $$ [W20 W21 W22]
  · isplitl [W20]; · iexact W20
    isplitl [W21]; · iexact W21
    iexact W22
  ihave O0 := (Entails.of_eq (came_rows m c 2)) $$ W32
  ihave O1 := (Entails.of_eq (came_rows m c 1)) $$ W31
  ihave O2 := (Entails.of_eq (came_rows m c 0)) $$ W30
  ihave Hout := (Entails.of_eq (o_pieces c (outAt m c)).symm) $$ [O O0 O1 O2]
  · isplitl [O]; · iexact O
    isplitl [O0]; · iexact O0
    isplitl [O1]; · iexact O1
    iexact O2
  unfold bodyPost
  rw [over13]
  isplitl [ZB Z00 Z01 Z02 Z10 Z11 Z12 Z20 Z21 Z22 Z30 Z31 Z32]
  · isplitl [ZB]; · iexact ZB
    isplitl [Z00]; · iexact Z00
    isplitl [Z01]; · iexact Z01
    isplitl [Z02]; · iexact Z02
    isplitl [Z10]; · iexact Z10
    isplitl [Z11]; · iexact Z11
    isplitl [Z12]; · iexact Z12
    isplitl [Z20]; · iexact Z20
    isplitl [Z21]; · iexact Z21
    isplitl [Z22]; · iexact Z22
    isplitl [Z30]; · iexact Z30
    isplitl [Z31]; · iexact Z31
    iexact Z32
  isplitl [Ho]; · iexact Ho
  isplitl [Hr]; · iexists recvAt m c; iexact Hr
  isplitl [Hx]; · iexact Hx
  isplitl [Hs]; · iexact Hs
  isplitl [Hg]; · iexact Hg
  iexact Hout

end Cert.KernelIdeal.Mesh

end
-- ==== Proof.KernelIdealRun.lean ====
/-
# The launch

From a start with all semaphores at zero, every device's thirteen cells are put under the schedule, the duty tokens
are dealt to the devices that pay them, and every device gets the credit for the units it is to receive. The run of
the program follows (`run_main`): it ends, with the result in place on every device, the operands unchanged and every
semaphore at zero (`run_result`).
-/
module

public import proofs.«01_k».proof.Proof.KernelIdealBody
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch theorem asks for it -/

/-- A staged operand held whole. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the start of the protocol and the receive buffer. -/
def before (c : Dev nD) : sProp 𝕄 := iprop(start m c ∗ ∃ f, (c : Thread nD τ).loc cc0_scratch0 ↦{fullShare} f)
/-- After it: every semaphore at zero, and the receive buffer. -/
def after (c : Dev nD) : sProp 𝕄 :=
  iprop((bigSep Finset.univ fun k : Slot => semVal (cellAt c k) 0) ∗ ∃ f, (c : Thread nD τ).loc cc0_scratch0 ↦{fullShare} f)

/-- The proof data of the one launch: the arrays as they are at the start, what the body leaves in each staged operand,
    what holds before and after the one grid point, and what is owed then. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => sAt m c
    | ⟨2, _⟩ => gAt m c
    | ⟨3, _⟩ => outAt m c
  Φ t := match t with
    | ⟨0, _⟩ => before m c
    | ⟨_ + 1, _⟩ => after c
  q _ := fullShare
  owed t := match t with
    | ⟨0, _⟩ => dues 9 c
    | ⟨_ + 1, _⟩ => 0

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- The body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_held]
  show iprop(before m c ∗ (dats m 0 c).owesAt () t0_0.castSucc
      ∗ (∃ d, held c cc0_stg0_0 ((dats m 0 c).before (0 : Fin 4) t0_0 d))
      ∗ (∃ d, held c cc0_stg1_0 ((dats m 0 c).before (1 : Fin 4) t0_0 d))
      ∗ (∃ d, held c cc0_stg2_0 ((dats m 0 c).before (2 : Fin 4) t0_0 d))
      ∗ (∃ d, held c cc0_stg3_0 ((dats m 0 c).before (3 : Fin 4) t0_0 d)))
    ⊢ goes c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) cc0_scratch1 cc0_scratch2 cc0_scratch3 cc0_scratch4)
        (fun _ => iprop(after c ∗ (dats m 0 c).owesAt () t0_0.succ ∗ held c cc0_stg0_0 (xAt m c) ∗ held c cc0_stg1_0 (sAt m c)
          ∗ held c cc0_stg2_0 (gAt m c) ∗ held c cc0_stg3_0 (outAt m c)))
  unfold before start
  iintro ⟨⟨⟨⟨%K, Hgh⟩, Hcr, Hlev⟩, Hr⟩, Ho, ⟨%d0, %g0, %h0, Hx⟩, ⟨%d1, %g1, %h1, Hs⟩, ⟨%d2, %g2, %h2, Hg⟩, ⟨%d3, %g3, %h3, Hout⟩⟩
  have e0 : g0 = xAt m c := by rw [h0]; unfold Dat.before; rw [if_pos (fetch0_0 t0_0)]; rfl
  have e1 : g1 = sAt m c := by rw [h1]; unfold Dat.before; rw [if_pos (fetch0_1 t0_0)]; rfl
  have e2 : g2 = gAt m c := by rw [h2]; unfold Dat.before; rw [if_pos (fetch0_2 t0_0)]; rfl
  subst e0 e1 e2
  unfold Dat.owesAt Pipeline.owesWithin
  icases Ho with ⟨%W, %hW, HO⟩
  rw [show (dats m 0 c).owed t0_0.castSucc = dues 9 c from rfl]
  iapply (body_run m K c _)
  isplitr []
  · unfold bodyPre own
    isplitl [Hgh]; · iexact Hgh
    isplitl [Hcr]; · iexact Hcr
    isplitl [Hlev]; · iexact Hlev
    isplitl [HO]; · iexists W; iexact HO
    isplitl [Hr]; · iexact Hr
    isplitl [Hx]; · iexact Hx
    isplitl [Hs]; · iexact Hs
    isplitl [Hg]; · iexact Hg
    iexists g3; iexact Hout
  unfold bodyPost own after
  iintro ⟨Hz, ⟨%W', HO⟩, Hr, Hx, Hs, Hg, Hout⟩
  isplitl [Hz Hr]
  · isplitl [Hz]; · iexact Hz
    iexact Hr
  isplitl [HO]
  · iexists W'
    isplitr; · ipureintro; exact fun _ _ => Or.inl trivial
    rw [show (dats m 0 c).owed t0_0.succ = dues 0 c from rfl]
    iexact HO
  isplitl [Hx]
  · iexists _; isplitr; · (ipureintro; rfl)
    iexact Hx
  isplitl [Hs]
  · iexists _; isplitr; · (ipureintro; rfl)
    iexact Hs
  isplitl [Hg]
  · iexists _; isplitr; · (ipureintro; rfl)
    iexact Hg
  iexists _; isplitr; · (ipureintro; rfl)
  iexact Hout

/-! ## The cells put under the schedule -/

/-- The kernel's own semaphores are the twelve of the transfers. -/
def osem (aj : Fin 4 × Fin 3) : SemLoc sig := .dma (dsem aj.1 aj.2)

theorem ownSemFacts : Pipeline.OwnSemFacts cfg0.spec osem := by decide

def cells : Finset (GSem nD τ sig) := Finset.univ.map ⟨fun ck : Dev nD × Slot => cellAt ck.1 ck.2, cellAt_injective⟩

/-- The duties of one device's cells: a barrier's three (`none`), and one of each transfer. -/
abbrev Duty : Type := Option (Fin 4) × Fin 3
def dutySlot (t : Duty) : Slot := t.1.map fun a => (a, t.2)
def dutyName (t : Duty) : Fin 3 := match t.1 with | none => t.2 | some _ => 0
def dutyAt (ct : Dev nD × Duty) : GSem nD τ sig × ℕ × Fin 3 := (cellAt ct.1 (dutySlot ct.2), 0, dutyName ct.2)

theorem duty_injective : ∀ t t' : Duty, dutySlot t = dutySlot t' → dutyName t = dutyName t' → t = t' := by decide

theorem dutyAt_injective : Function.Injective dutyAt := by
  rintro ⟨c, t⟩ ⟨c', t'⟩ h
  have h1 := cellAt_injective (a₁ := (c, dutySlot t)) (a₂ := (c', dutySlot t')) (congrArg Prod.fst h)
  have h2 : t = t' := duty_injective t t' (congrArg Prod.snd h1) (congrArg (fun x : GSem nD τ sig × ℕ × Fin 3 => x.2.2) h)
  rw [h2, show c = c' from congrArg Prod.fst h1]

def minted : Finset (GSem nD τ sig × ℕ × Fin 3) := Finset.univ.map ⟨dutyAt, dutyAt_injective⟩

/-- What the launch starts from: the staging's cells and tokens, the protocol's cells and tokens. -/
def u₀ : UU :=
  (initOf (Pipeline.cells cfgs cellOf_inj) (Pipeline.launchToks cfgs cellOf_inj), initOf cells minted)

/-- The tokens of a device's own cells, as minted. -/
def ownToks (c : Dev nD) : sProp 𝕄 := bigSep Finset.univ fun t : Duty => dutyTok ER (cellAt c (dutySlot t)) 0 (dutyName t)

/-- A device's cells, before their invariants: their states, the device's place, the tokens. -/
def fresh (c : Dev nD) : sProp 𝕄 :=
  iprop((bigSep Finset.univ fun k : Slot => roundState ER (sched m) (cellAt c k) 0)
    ∗ (bigSep Finset.univ fun k : Slot => iprop(atPos ER (cellAt c k) 0 ∅ 0 ∗ reached ER (cellAt c k) 0)) ∗ ownToks c)

/-- What a device's body is given of the protocol. -/
def placed (c : Dev nD) : sProp 𝕄 := iprop(∃ K, ghost m K c)

omit [FloatOps F] in
theorem over_cells (Φ : GSem nD τ sig → sProp 𝕄) :
    bigSep cells Φ = bigSep Finset.univ fun c : Dev nD => bigSep Finset.univ fun k : Slot => Φ (cellAt c k) := by
  unfold cells; rw [bigSep_map, bigSep_univ_prod]; rfl
omit [FloatOps F] in
theorem over_minted : bigSep minted (fun x => (dutyTok ER x.1 x.2.1 x.2.2 : sProp 𝕄)) = bigSep Finset.univ fun c : Dev nD => ownToks c := by
  unfold minted; rw [bigSep_map, bigSep_univ_prod]; rfl

/-- The protocol's share of the launch element, device by device. -/
theorem funded : BI.own (ER (initOf cells minted)) ⊢ (|==> bigSep Finset.univ (fresh m) : sProp 𝕄) := by
  iintro HX
  imod (Rounds.fund ER (sched m) cells minted) $$ HX with ⟨Hst, Hr, Hat, Htok⟩
  imodintro
  ihave Hst' := (Entails.of_eq (over_cells fun g => roundState ER (sched m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_minted (F := F))) $$ Htok
  unfold fresh; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (dmaC 0 0 c) 0 ∗ semVal (dmaC 0 1 c) 0 ∗ semVal (dmaC 0 2 c) 0 ∗ semVal (dmaC 1 0 c) 0 ∗ semVal (dmaC 1 1 c) 0 ∗ semVal (dmaC 1 2 c) 0
        ∗ semVal (dmaC 2 0 c) 0 ∗ semVal (dmaC 2 1 c) 0 ∗ semVal (dmaC 2 2 c) 0 ∗ semVal (dmaC 3 0 c) 0 ∗ semVal (dmaC 3 1 c) 0 ∗ semVal (dmaC 3 2 c) 0) := by
  rw [Pipeline.ownSems0_eq_of_list c osem [(0, 0), (0, 1), (0, 2), (1, 0), (1, 1), (1, 2), (2, 0), (2, 1), (2, 2), (3, 0), (3, 1), (3, 2)]
    (by decide) (by decide)]
  rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The thirteen semaphores are the kernel's twelve and the launch's unscoped one. -/
theorem all_sems (c : Dev nD) : (bigSep Finset.univ fun k : Slot => semVal (cellAt c k) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, over13]

/-- One device's cells put under the schedule. -/
theorem allocated (c : Dev nD) :
    iprop(Pipeline.ownSems0 (Ix := Unit) (Name := ℕ) (U := UU) (Lvl := ℕ) (Val := Elt F) (τ := τ) osem c ∗ unscopedSems0 c ∗ fresh m c)
      ⊢ |={Set.univ}=> iprop((bigSep Finset.univ fun k : Slot => iprop(∃ κ : ℕ, cellInv ER (sched m) κ (cellAt c k)))
          ∗ (bigSep Finset.univ fun k : Slot => iprop(atPos ER (cellAt c k) 0 ∅ 0 ∗ reached ER (cellAt c k) 0)) ∗ ownToks c) := by
  unfold fresh
  iintro ⟨Hos, Hus, Hst, Hat, Htok⟩
  ihave Hv := (Entails.of_eq (all_sems (F := F) c).symm) $$ [Hos Hus]
  · isplitl [Hus] <;> iassumption
  imod (show iprop((bigSep Finset.univ fun k : Slot => semVal (cellAt c k) 0) ∗ bigSep Finset.univ fun k : Slot => roundState ER (sched m) (cellAt c k) 0)
      ⊢ (|={Set.univ}=> bigSep Finset.univ fun k : Slot => iprop(∃ κ : ℕ, cellInv ER (sched m) κ (cellAt c k)) : sProp 𝕄) from by
        rw [← bigSep_sep']
        exact (bigSep_mono fun k _ => (Rounds.body_intro ER (sched m) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- (device, peer) pairs, and the same link seen from its other end. -/
def link : Dev nD × Fin 3 ≃ Dev nD × Fin 3 where
  toFun p := (shift p.2.succ p.1, Fin.rev p.2)
  invFun p := (shift p.2.succ p.1, Fin.rev p.2)
  left_inv p := Prod.ext (shift_rev_shift p.2 p.1) (Fin.rev_rev p.2)
  right_inv p := Prod.ext (shift_rev_shift p.2 p.1) (Fin.rev_rev p.2)
/-- (device, peer) pairs, the device replaced by its peer. -/
def across : Dev nD × Fin 3 ≃ Dev nD × Fin 3 where
  toFun p := (shift p.2.succ p.1, p.2)
  invFun p := (shift (Fin.rev p.2).succ p.1, p.2)
  left_inv p := Prod.ext (shift_rev_shift p.2 p.1) rfl
  right_inv p := Prod.ext (shift_shift_rev p.2 p.1) rfl

omit [FloatOps F] in
theorem over_pairs (e : Dev nD × Fin 3 ≃ Dev nD × Fin 3) (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (e (c, j)).1 (e (c, j)).2 :=
  ((bigSep_univ_prod (fun p : Dev nD × Fin 3 => Φ p.1 p.2)).symm.trans (bigSep_univ_equiv e _)).trans (bigSep_univ_prod _)

omit [FloatOps F] in
theorem own_toks (c : Dev nD) : (ownToks c : sProp 𝕄)
    = iprop((bigSep Finset.univ fun j : Fin 3 => dutyTok ER (barC c) 0 j)
      ∗ (bigSep Finset.univ fun j : Fin 3 => dutyTok ER (dmaC 0 j c) 0 0) ∗ (bigSep Finset.univ fun j : Fin 3 => dutyTok ER (dmaC 1 j c) 0 0)
      ∗ (bigSep Finset.univ fun j : Fin 3 => dutyTok ER (dmaC 2 j c) 0 0) ∗ (bigSep Finset.univ fun j : Fin 3 => dutyTok ER (dmaC 3 j c) 0 0)) := by
  unfold ownToks
  rw [bigSep_univ_prod, bigSep_univ_eq_bigSepL [none, some (0 : Fin 4), some 1, some 2, some 3] (by decide) (by decide)]
  rfl

omit [FloatOps F] in
/-- Every device gets the tokens of the duties it pays: its peers' barriers' and arrivals', its own departures'. -/
theorem dealt : (bigSep Finset.univ fun c : Dev nD => (ownToks c : sProp 𝕄)) ⊢ bigSep Finset.univ fun c : Dev nD => payToks c := by
  refine Entails.of_eq ?_
  simp only [own_toks, payToks, bigSep_sep']
  rw [over_pairs link fun c j => dutyTok ER (barC c) 0 j, over_pairs across fun c j => dutyTok ER (dmaC 1 j c) 0 0,
    over_pairs across fun c j => dutyTok ER (dmaC 3 j c) 0 0]
  rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells recorded, the tokens dealt: every device in its place. -/
theorem settled :
    (bigSep Finset.univ fun c : Dev nD => iprop((bigSep Finset.univ fun k : Slot => iprop(∃ κ : ℕ, cellInv ER (sched m) κ (cellAt c k)))
          ∗ (bigSep Finset.univ fun k : Slot => iprop(atPos ER (cellAt c k) 0 ∅ 0 ∗ reached ER (cellAt c k) 0)) ∗ ownToks c) : sProp 𝕄)
      ⊢ bigSep Finset.univ (placed m) := by
  rw [bigSep_sep', bigSep_sep', ← bigSep_univ_prod (fun ck : Dev nD × Slot => iprop(∃ κ : ℕ, cellInv ER (sched m) κ (cellAt ck.1 ck.2))),
    bigSep_congr (s := Finset.univ) (fun (c : Dev nD) _ => bigSep_sep' Finset.univ (fun k : Slot => (atPos ER (cellAt c k) 0 ∅ 0 : sProp 𝕄)) (fun k => reached ER (cellAt c k) 0)),
    bigSep_sep', ← bigSep_univ_prod (fun ck : Dev nD × Slot => (reached ER (cellAt ck.1 ck.2) 0 : sProp 𝕄))]
  iintro ⟨HI, ⟨Hat, #HR⟩, Htok⟩
  ihave HK := (BI.bigSep_exists_pi Finset.univ (fun (ck : Dev nD × Slot) (κ : ℕ) => (cellInv ER (sched m) κ (cellAt ck.1 ck.2) : sProp 𝕄))) $$ HI
  icases HK with ⟨%K, #HI⟩
  ihave Htk := (dealt (F := F)) $$ Htok
  iapply (with_persistent (R := records m K) (Φ := fun c => place c) fun c _ => by
    unfold placed ghost
    iintro ⟨#H, Hp⟩
    iexists K
    isplitr; · iexact H
    iexact Hp)
  isplitr
  · unfold records; isplitl; · iexact HI
    iexact HR
  · unfold place; rw [bigSep_sep']
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ fresh m c) : sProp 𝕄)
    ⊢ |={Set.univ}=> bigSep Finset.univ (placed m) :=
  ((bigSep_mono fun c _ => allocated m c).trans (bigSep_fupd _ _)).trans (BI.fupd_mono (settled m))

/-! ## The credit -/

/-- What device `c` is to receive: the nine payments its peers make to it. -/
def due (c : Dev nD) : CellTallies nD τ sig Unit := ∑ i ∈ Finset.range 9, tallyAt (cellAt c (paySlot i)) () (payAmt i)

theorem dues_eq_due : (∑ c, dues 9 c) = ∑ c, due c := by
  unfold dues due
  rw [Finset.sum_comm, Finset.sum_comm (s := Finset.univ) (t := Finset.range 9)]
  refine Finset.sum_congr rfl fun i _ => ?_
  exact Equiv.sum_comp (turn (payPeer i).succ) fun c => tallyAt (cellAt c (paySlot i)) () (payAmt i)

theorem due_local (c : Dev nD) (g : GSem nD τ sig) (h : due c g ≠ 0) : g.1 = (c.tc : Thread nD τ) := by
  by_contra hne
  refine h ?_
  unfold due
  rw [Finset.sum_apply]
  exact Finset.sum_eq_zero fun i _ => tallyAt_ne_cell (fun e => hne (congrArg Prod.fst e)) _ _

theorem regroup {M : Type*} [AddCommMonoid M] (a₀ a₁ a₂ b₀ b₁ b₂ d : M) :
    b₂ + b₁ + b₀ + a₂ + a₁ + a₀ + d + d + d = d + d + d + ((a₀ + (a₁ + a₂)) + (b₀ + (b₁ + b₂))) := by
  simp only [add_comm, add_left_comm, add_assoc]

theorem due_eq (c : Dev nD) : due c = tallyAt (barC c) () 3
    + ((tallyAt (dmaC 1 0 c) () N + (tallyAt (dmaC 1 1 c) () N + tallyAt (dmaC 1 2 c) () N))
      + (tallyAt (dmaC 3 0 c) () N + (tallyAt (dmaC 3 1 c) () N + tallyAt (dmaC 3 2 c) () N))) := by
  have h3 : (tallyAt (barC c) () 3 : CellTallies nD τ sig Unit) = tallyAt (barC c) () 1 + tallyAt (barC c) () 1 + tallyAt (barC c) () 1 := by
    rw [tallyAt_add, tallyAt_add]
  rw [h3]
  unfold due
  simp only [Finset.sum_range_succ, Finset.sum_range_zero, zero_add]
  exact regroup _ _ _ _ _ _ _

theorem credited (c : Dev nD) : (Pipeline.launchCred (dues 9) c : sProp 𝕄) ⊢ credits c := by
  rw [Pipeline.launchCred_of_sum (dues 9) due dues_eq_due due_local c, due_eq]
  unfold credits
  rw [over3, over3]
  have h (a b d : CellTallies nD τ sig Unit) : (cred (a + (b + d)) : sProp 𝕄) ⊢ iprop(cred a ∗ cred b ∗ cred d) :=
    (cred_add _ _).1.trans (sep_mono_right (cred_add _ _).1)
  exact (cred_add _ _).1.trans (sep_mono_right ((cred_add _ _).1.trans ((sep_mono_left (h _ _ _)).trans (sep_mono_right (h _ _ _)))))

/-! ## The launch theorem's side conditions -/

theorem started (c : Dev nD) :
    iprop(Pipeline.unscopedRestP Pipeline.Prefetch.none cfg0.spec c (fun b => m ((c : Thread nD τ).loc b)) ∗ levAts L lv
        ∗ Pipeline.launchCred (dues 9) c ∗ prngReg c (ρ c) ∗ placed m c)
      ⊢ |={Set.univ}=> iprop(start m c ∗ emp) := by
  iintro ⟨-, Hlev, Hcr, -, HG⟩
  ihave Hc := (credited (F := F) c) $$ Hcr
  imodintro
  unfold start placed
  isplitl
  · isplitl [HG]; · iexact HG
    isplitl [Hc]; · iexact Hc
    iexact Hlev
  · iempintro

theorem entered (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iexact Hr

theorem left (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq]
  unfold after
  rw [all_sems]
  iintro ⟨⟨Hu, Ho⟩, Hr⟩
  isplitl [Hu]; · iexact Hu
  isplitl [Ho]; · iexact Ho
  iexact Hr

/-- The staging's own waits are below everything a device owes. -/
theorem staged (c : Dev nD) : (levAts L lv : sProp 𝕄) ⊢ Pipeline.cellsWaits cfgs (dats m) () 0 c :=
  Pipeline.cellsWaits_intro cfgs (dats m) () 0 c fun w s t => by
    have hs : slotOf (.dma ((cfg0.spec w).sem s)) = none := by fin_cases w <;> fin_cases s <;> decide
    rcases t with ⟨_ | _, ht⟩
    · exact mayWait 9 c (.dma ((cfg0.spec w).sem s)) (by rw [hs]; decide)
    · exact mayWait 0 c (.dma ((cfg0.spec w).sem s)) (fun i hi => absurd hi (Nat.not_lt_zero i))

theorem share_eq (c : Dev nD) (w : Fin cfg0.W) : (dats m 0 c).share w = fullShare := by unfold Dat.share; split <;> rfl

/-! ## The run -/

/-- What an operand's array holds at the end. -/
def finalA (c : Dev nD) (w : Fin cfg0.W) : Buf (Elt F) ((cfg0.win w).arr.view.loc (c : Thread nD τ)) := (dats m 0 c).arrAt w cfg0.N

/-- The program runs to its end on the whole mesh, from any memory and with every semaphore at zero: the arrays hold
    what `finalA` says, and every semaphore is at zero again. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := dues 9) (howed₀ := fun _ => rfl) (howedN := fun _ => rfl)
    (L := L) (lv := lv) (hL := L_of_ne) (hwaits := staged m)
    (G := fresh m) (G' := placed m) (u₀ := u₀)
    (hu₀ := by
      unfold u₀
      iintro Hu
      ihave H := (ownU_pair _ _) $$ Hu
      icases H with ⟨HP, HX⟩
      imod (funded m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := started m ρ) (hin := entered m) (hout := left m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array's one block, the whole array, holds what the body left. -/
theorem final_out (c : Dev nD) : (win0_3.blk (0 : Fin 1)).view.read (Elt F) (finalA m c (3 : Fin 4)) = outAt m c := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

theorem final_result (c : Dev nD) : finalA m c (3 : Fin 4) = outAt m c := by
  have hz : (fun a => (win0_3.index (0 : Fin 1)) a * main_v1.ty.shape.size a) = fun _ => 0 :=
    funext fun a => by fin_cases a <;> decide
  exact (Memref.read_access_unit_zero (Elt F) main_v1 hz (fun a => by fin_cases a <;> decide) _).symm.trans (final_out m c)

/-- The run, read at the program's own arrays: the result in place on every device, the arguments unchanged, every
    semaphore at zero. -/
theorem run_result : θ_run defs (onTc (τ := τ) (main (F := F))) ⟨m, fun _ => 0, ρ⟩
    (fun r => (∀ c : Dev nD, r.2.mem ((c.tc : Thread nD τ).loc main_v1) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun r h => ⟨fun c => ⟨(h.1 c (3 : Fin 4)).trans (final_result m c),
    (h.1 c (0 : Fin 4)).trans ((dats m 0 c).arrAt_in (0 : Fin 4) rfl _),
    (h.1 c (1 : Fin 4)).trans ((dats m 0 c).arrAt_in (1 : Fin 4) rfl _),
    (h.1 c (2 : Fin 4)).trans ((dats m 0 c).arrAt_in (2 : Fin 4) rfl _)⟩, h.2⟩) (run_main m ρ)

end Cert.KernelIdeal.Mesh

end
-- ==== Proof.KernelIdealValue.lean ====
/-
# The value

Read with floats as extended reals, what the kernel leaves is the reference's result: the row of the sum over the four
partial arrays and the residual, divided by the root of its mean square, times the scale (`normed`).
-/
module

public import proofs.«01_k».proof.Proof.KernelIdealMesh
public import proofs.«01_k».proof.Proof.Gen.ReferenceIdeal
public import Idealize.ShloMosaic.Lib.IdealHost
public import Idealize.ShloMosaic.Lib.KernelVsHost
public import Idealize.ShloMosaic.Lib.Layout
public import Idealize.ShloMosaic.Lib.ValueLayout
public import Idealize.ShloMosaic.Lib.ValueLayoutCasts
public import Idealize.ShloMosaic.PureOps.Ideal.Laws

@[expose] public section

set_option maxRecDepth 16384

noncomputable section

namespace Cert.KernelIdeal.Mesh

open Cert.KernelIdeal Cert.KernelIdeal.Gen

open Idealize.ShloMosaic Idealize.ShloMosaic.TcCoe Idealize.ShloMosaic.ValueIdx Idealize.ShloMosaic.ValueKit Idealize.SL.Sem
open scoped BigOperators

/-- Lane `l` of a row normalised by the root of its mean square (512 lanes, the small constant added to the mean), times
    `γ`. -/
def normed (y : Fin 512 → EReal) (γ : EReal) (l : Fin 512) : EReal :=
  Ideal.div (y l) (Ideal.sqrt (Ideal.div (∑ k, y k * y k) (Ideal.ofBits .f32 0x44000000#32) + Ideal.ofBits .f32 0x358637BD#32)) * γ

/-! ## The kernel's formula -/

/-- The rows the kernel's first payload adds up: its own partial rows, the three received, the residual. -/
def added (x r₀ r₁ r₂ : Vec Ideal S1x128x512 .f32) (s : Vec Ideal S128x512 .f32) (p : Fin 128) (k : Fin 512) : EReal :=
  x (ix3 (0 : Fin 1) p k) + r₀ (ix3 (0 : Fin 1) p k) + r₁ (ix3 (0 : Fin 1) p k) + r₂ (ix3 (0 : Fin 1) p k) + s (ix2 p k)

/-- The kernel's row sum of squares, spread back over the lanes. -/
theorem row_sum (v : FVec Ideal S128x512 .f32) (p : Fin 128) :
    multiReduction .add [1] S128 v 0x00000000#32 reduces_S128x512_S128 (.inl rfl) rfl (ix1 p) = ∑ k : Fin 512, v (ix2 p k) := by
  refine (Ideal.multiReduction_add_single v _ reduces_S128x512_S128 _ _ (ix1 p)).trans ?_
  refine Finset.sum_congr rfl fun k _ => congrArg v ?_
  funext a; apply Fin.ext; fin_cases a <;> rfl

/-- The kernel's two payloads at row `p`, lane `l`. -/
theorem payload_at_lane (x r₀ r₁ r₂ : Vec Ideal S1x128x512 .f32) (s : Vec Ideal S128x512 .f32) (g : Vec Ideal S512 .f32)
    (p : Fin 128) (l : Fin 512) :
    k0_pay2 (k0_pay1 x r₀ r₁ r₂ s) g (ix2 p l) = normed (added x r₀ r₁ r₂ s p) (g (ix1 l)) l := by
  unfold k0_pay2 k0_pay1 normed
  simp only [shapeCast_self]
  have hy (k : Fin 512) : (addf (addf (addf (addf (shapeCast S128x512 x shapeCasts_S1x128x512_S128x512)
      (shapeCast S128x512 r₀ shapeCasts_S1x128x512_S128x512)) (shapeCast S128x512 r₁ shapeCasts_S1x128x512_S128x512))
      (shapeCast S128x512 r₂ shapeCasts_S1x128x512_S128x512)) s : FVec Ideal S128x512 .f32) (ix2 p k) = added x r₀ r₁ r₂ s p k := by
    show shapeCast S128x512 x _ (ix2 p k) + shapeCast S128x512 r₀ _ (ix2 p k) + shapeCast S128x512 r₁ _ (ix2 p k)
      + shapeCast S128x512 r₂ _ (ix2 p k) + s (ix2 p k) = _
    rw [shapeCast_1ab_ab_apply, shapeCast_1ab_ab_apply, shapeCast_1ab_ab_apply, shapeCast_1ab_ab_apply]
    rfl
  generalize (addf (addf (addf (addf (shapeCast S128x512 x shapeCasts_S1x128x512_S128x512)
      (shapeCast S128x512 r₀ shapeCasts_S1x128x512_S128x512)) (shapeCast S128x512 r₁ shapeCasts_S1x128x512_S128x512))
      (shapeCast S128x512 r₂ shapeCasts_S1x128x512_S128x512)) s : FVec Ideal S128x512 .f32) = y at hy ⊢
  have hb {α : Type} (z : S128x1.Idx → α) : broadcastTo S128x512 z broadcasts_S128x1_S128x512 (ix2 p l) = z (ix2 p (0 : Fin 1)) :=
    broadcastTo_apply z _ _ _ (by intro a; fin_cases a <;> rfl)
  have hg : broadcastTo S128x512 (shapeCast S1x512 g shapeCasts_S512_S1x512) broadcasts_S1x512_S128x512 (ix2 p l) = g (ix1 l) :=
    (broadcastTo_apply _ _ _ (ix2 (0 : Fin 1) l) (by intro a; fin_cases a <;> rfl)).trans (shapeCast_a_1a_apply g _ 0 l)
  show Ideal.div (y (ix2 p l)) (broadcastTo S128x512 _ broadcasts_S128x1_S128x512 (ix2 p l))
    * broadcastTo S128x512 (shapeCast S1x512 g shapeCasts_S512_S1x512) broadcasts_S1x512_S128x512 (ix2 p l) = _
  rw [hb, hg, hy]
  show Ideal.div _ (Ideal.sqrt (Ideal.div (shapeCast S128x1 (multiReduction .add [1] S128 (mulf y y) 0x00000000#32 reduces_S128x512_S128
    (.inl rfl) rfl) shapeCasts_S128_S128x1 (ix2 p (0 : Fin 1))) _ + _)) * _ = _
  rw [shapeCast_a_a1_apply, row_sum]
  rw [show (∑ k : Fin 512, mulf y y (ix2 p k)) = ∑ k, added x r₀ r₁ r₂ s p k * added x r₀ r₁ r₂ s p k from
    Finset.sum_congr rfl fun k _ => by show y (ix2 p k) * y (ix2 p k) = _; rw [hy]]
  rfl

/-! ## The reference's formula -/

/-- The reference's result, as a function of its three arguments. -/
def refOut (X : FVec Ideal ReferenceIdeal.S4x512x512 .f32) (R : FVec Ideal ReferenceIdeal.S512x512 .f32) (G : FVec Ideal ReferenceIdeal.S512 .f32) :
    FVec Ideal ReferenceIdeal.S512x512 .f32 :=
  fun i => normed (fun k => (∑ a : Fin 4, X (ix3 a (i 0 : Fin 512) k)) + R (ix2 (i 0 : Fin 512) k)) (G (ix1 (i 1 : Fin 512))) (i 1 : Fin 512)

/-! ## What the kernel reads -/

/-- Row `p` of row block `b`. -/
def rowOf (b : Fin 4) (p : Fin 128) : Fin 512 := ⟨128 * b.val + p.val, by have := b.isLt; have := p.isLt; omega⟩

variable (m : (ℓ : Loc nD τ sig) → Buf (Elt Ideal) ℓ)

theorem x_read (c : Dev nD) (b : Fin 4) (p : Fin 128) (k : Fin 512) :
    (xM.access (xR b)).read (Elt Ideal) (xAt m c) (ix3 (0 : Fin 1) p k) = xAt m c (xIx b p k) := by
  refine congrArg (xAt m c) (funext fun a => Fin.ext ?_)
  have h := view_emb_slice_whole_unit_val cc0_stg0_0 _ _ (inbX b) (ix3 (0 : Fin 1) p k) a
  refine Eq.trans h ?_
  fin_cases a
  · rfl
  · rfl
  · exact Nat.zero_add _

theorem r_read (c : Dev nD) (j : Fin 3) (p : Fin 128) (k : Fin 512) :
    (rM.access (rR j)).read (Elt Ideal) (recvAt m c) (ix3 (0 : Fin 1) p k) = xAt m (shift (Fin.rev j).succ c) (xIx (row c) p k) := by
  have e : (rM.access (rR j)).read (Elt Ideal) (recvAt m c) (ix3 (0 : Fin 1) p k) = recvAt m c (ix3 j p k) := by
    refine congrArg (recvAt m c) (funext fun a => Fin.ext ?_)
    have h := view_emb_slice_whole_unit_val cc0_scratch0 _ _ (inbR j) (ix3 (0 : Fin 1) p k) a
    refine Eq.trans h ?_
    fin_cases a
    · rfl
    · exact Nat.zero_add _
    · exact Nat.zero_add _
  exact e

theorem s_read (c : Dev nD) (b : Fin 4) (p : Fin 128) (k : Fin 512) :
    (sM.access (oR b)).read (Elt Ideal) (sAt m c) (ix2 p k)
      = sAt m c (ix2 (rowOf b p) k) := by
  refine congrArg (sAt m c) (funext fun a => Fin.ext ?_)
  have h := view_emb_slice_whole_unit_val cc0_stg1_0 _ _ (inbO b) (ix2 p k) a
  refine Eq.trans h ?_
  fin_cases a
  · rfl
  · exact Nat.zero_add _

theorem g_read (c : Dev nD) (l : Fin 512) :
    (gM.access (Rect.unit (s := S512) ![0] S512.size inb_S512_S512_0)).read (Elt Ideal) (gAt m c) (ix1 l) = gAt m c (ix1 l) := by
  refine congrArg (gAt m c) (funext fun a => Fin.ext ?_)
  have h := view_emb_slice_whole_unit_val cc0_stg2_0 _ _ inb_S512_S512_0 (ix1 l) a
  refine Eq.trans h ?_
  fin_cases a
  exact Nat.zero_add _

/-- The staged operands are the arguments, each one block. -/
theorem xAt_eq (c : Dev nD) : xAt m c = m ((c : Thread nD τ).loc main_arg0) :=
  Memref.read_access_unit_zero (Elt Ideal) main_arg0 (funext fun a => by fin_cases a <;> decide) (fun a => by fin_cases a <;> decide) _
theorem sAt_eq (c : Dev nD) : sAt m c = m ((c : Thread nD τ).loc main_arg1) :=
  Memref.read_access_unit_zero (Elt Ideal) main_arg1 (funext fun a => by fin_cases a <;> decide) (fun a => by fin_cases a <;> decide) _
theorem gAt_eq (c : Dev nD) : gAt m c = m ((c : Thread nD τ).loc main_arg2) :=
  Memref.read_access_unit_zero (Elt Ideal) main_arg2 (funext fun a => by fin_cases a <;> decide) (fun a => by fin_cases a <;> decide) _

/-! ## The two agree -/

/-- A device's own term and the three received ones, in the order of the additions, are the terms of all four places of
    the group. -/
theorem group_sum (b : Fin 4) (f : Fin 4 → EReal) :
    f b + f (b + (Fin.rev (0 : Fin 3)).succ) + f (b + (Fin.rev (1 : Fin 3)).succ) + f (b + (Fin.rev (2 : Fin 3)).succ) = ∑ a, f a := by
  rw [Fin.sum_univ_four]
  fin_cases b
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- If every device holds the slab of its place out of `X`, and `R` and `G` whole, then every device ends with the
    reference's result. -/
theorem outAt_eq (X : FVec Ideal ReferenceIdeal.S4x512x512 .f32) (R : FVec Ideal ReferenceIdeal.S512x512 .f32)
    (G : FVec Ideal ReferenceIdeal.S512 .f32)
    (hX : ∀ (c : Dev nD) (i k : Fin 512), xAt m c (ix3 (0 : Fin 1) i k) = X (ix3 (row c) i k))
    (hR : ∀ c, sAt m c = R) (hG : ∀ c, gAt m c = G) (c : Dev nD) : outAt m c = refOut X R G := by
  have key (d : Dev nD) (p : Fin 128) (l : Fin 512) : chunk m d (ix2 p l)
      = normed (fun k => (∑ a : Fin 4, X (ix3 a (rowOf (row d) p) k))
          + R (ix2 (rowOf (row d) p) k)) (G (ix1 l)) l := by
    unfold chunk
    rw [payload_at_lane, g_read, hG]
    congr 1
    funext k
    unfold added
    rw [x_read, r_read, r_read, r_read, s_read, hR]
    congr 1
    have hx (e : Dev nD) : xAt m e (xIx (row d) p k)
        = X (ix3 (row e) (rowOf (row d) p) k) := by
      rw [← hX]
      refine congrArg (xAt m e) (funext fun a => ?_)
      fin_cases a <;> rfl
    rw [hx, hx, hx, hx, row_shift, row_shift, row_shift]
    exact group_sum (row d) fun a => X (ix3 a _ k)
  funext i
  have hlt : (i 0).val < 512 := (i 0).isLt
  unfold outAt refOut
  refine Eq.trans (congrArg _ (eq_ix2 _)) ((key _ (⟨(i 0).val % 128, Nat.mod_lt _ (by decide)⟩ : Fin 128) (i 1 : Fin 512)).trans ?_)
  rw [row_atRow]
  rw [show rowOf ⟨(i 0).val / 128, by omega⟩ ⟨(i 0).val % 128, Nat.mod_lt _ (by decide)⟩ = (i 0 : Fin 512) from Fin.ext (Nat.div_add_mod _ _)]

end Cert.KernelIdeal.Mesh

/-! ## The reference's run -/

namespace Cert.ReferenceIdeal.Closed

open Cert.ReferenceIdeal Cert.ReferenceIdeal.Gen
open Idealize.ShloMosaic Idealize.ShloMosaic.TcCoe Idealize.ShloMosaic.ValueIdx
open Cert.KernelIdeal.Mesh (normed refOut)
open scoped BigOperators

/-- The sum over the four slabs, at an index. -/
theorem slab_sum (X : FVec Ideal S4x512x512 .f32) (h : S4x512x512.Reduces [0] S512x512) (i k : Fin 512) :
    Host.reduceAdd X (constant S_ .f32 0x00000000#32) reducesTo_S4x512x512_S512x512_d0 h_S_ (ix2 i k) = ∑ a : Fin 4, X (ix3 a i k) := by
  rw [hostReduceAdd_apply, Ideal.hostReduceAdd_single _ h]
  rw [show constant (F := Ideal) S_ .f32 0x00000000#32 (Shape.Idx.first h_S_) = 0 from Ideal.ofBits_zero_f32, zero_add]
  refine Finset.sum_congr rfl fun a _ => congrArg X ?_
  funext b; apply Fin.ext; fin_cases b <;> rfl

/-- The sum along a row, at a row. -/
theorem lane_sum (Y : FVec Ideal S512x512 .f32) (h : S512x512.Reduces [1] S512) (i : Fin 512) :
    Host.reduceAdd Y (constant S_ .f32 0x00000000#32) reducesTo_S512x512_S512_d1 h_S_ (ix1 i) = ∑ k : Fin 512, Y (ix2 i k) := by
  rw [hostReduceAdd_apply, Ideal.hostReduceAdd_single _ h]
  rw [show constant (F := Ideal) S_ .f32 0x00000000#32 (Shape.Idx.first h_S_) = 0 from Ideal.ofBits_zero_f32, zero_add]
  refine Finset.sum_congr rfl fun a _ => congrArg Y ?_
  funext b; apply Fin.ext; fin_cases b <;> rfl

/-- What the reference's operations compute of the sum `Y` (partial sums and residual) and the scale `G`. -/
theorem normalised (Y : FVec Ideal S512x512 .f32) (G : FVec Ideal S512 .f32) (i k : Fin 512) :
    mulf (Host.divf Y (broadcastInDim S512x512 ![0, 1] bcast_S512x1_S512x512_0_1 (Host.sqrt (addf
        (Host.divf (broadcastInDim S512x1 ![0] bcast_S512_S512x1_0 (Host.reduceAdd (mulf Y Y) (constant S_ .f32 0x00000000#32) reducesTo_S512x512_S512_d1 h_S_))
          (broadcastInDim S512x1 ![] bcast_S_S512x1 (constant S_ .f32 0x44000000#32)))
        (broadcastInDim S512x1 ![] bcast_S_S512x1 (constant S_ .f32 0x358637BD#32))))))
      (broadcastInDim S512x512 ![0, 1] bcast_S1x512_S512x512_0_1 (broadcastInDim S1x512 ![1] bcast_S512_S1x512_1 G)) (ix2 i k)
      = normed (fun l => Y (ix2 i l)) (G (ix1 k)) k := by
  have hb {α : Type} (z : S512x1.Idx → α) : broadcastInDim S512x512 ![0, 1] bcast_S512x1_S512x512_0_1 z (ix2 i k) = z (ix2 i (0 : Fin 1)) :=
    broadcastInDim_apply _ _ z _ _ (by intro a; fin_cases a <;> rfl)
  have hg : broadcastInDim S512x512 ![0, 1] bcast_S1x512_S512x512_0_1 (broadcastInDim S1x512 ![1] bcast_S512_S1x512_1 G) (ix2 i k) = G (ix1 k) :=
    (broadcastInDim_apply _ _ _ _ (ix2 (0 : Fin 1) k) (by intro a; fin_cases a <;> rfl)).trans
      (broadcastInDim_apply _ _ G _ _ (by intro a; fin_cases a; rfl))
  have hc {α : Type} (z : S512.Idx → α) : broadcastInDim S512x1 ![0] bcast_S512_S512x1_0 z (ix2 i (0 : Fin 1)) = z (ix1 i) :=
    broadcastInDim_apply _ _ z _ _ (by intro a; fin_cases a; rfl)
  show Ideal.div (Y (ix2 i k)) (broadcastInDim (s := S512x1) S512x512 ![0, 1] bcast_S512x1_S512x512_0_1 _ (ix2 i k)) * broadcastInDim S512x512 ![0, 1]
    bcast_S1x512_S512x512_0_1 (broadcastInDim S1x512 ![1] bcast_S512_S1x512_1 G) (ix2 i k) = _
  rw [hb, hg]
  show Ideal.div _ (Ideal.sqrt (Ideal.div (broadcastInDim (s := S512) S512x1 ![0] bcast_S512_S512x1_0 _ (ix2 i (0 : Fin 1))) _ + _)) * _ = _
  rw [hc, lane_sum _ (by decide)]
  rfl

/-- The reference's result is `refOut`. -/
theorem result_eq (X : FVec Ideal S4x512x512 .f32) (R : FVec Ideal S512x512 .f32) (G : FVec Ideal S512 .f32) :
    mulf (Host.divf (addf (Host.reduceAdd X (constant S_ .f32 0x00000000#32) reducesTo_S4x512x512_S512x512_d0 h_S_) R)
      (broadcastInDim S512x512 ![0, 1] bcast_S512x1_S512x512_0_1 (Host.sqrt (addf
        (Host.divf (broadcastInDim S512x1 ![0] bcast_S512_S512x1_0 (Host.reduceAdd
            (mulf (addf (Host.reduceAdd X (constant S_ .f32 0x00000000#32) reducesTo_S4x512x512_S512x512_d0 h_S_) R)
              (addf (Host.reduceAdd X (constant S_ .f32 0x00000000#32) reducesTo_S4x512x512_S512x512_d0 h_S_) R))
            (constant S_ .f32 0x00000000#32) reducesTo_S512x512_S512_d1 h_S_))
          (broadcastInDim S512x1 ![] bcast_S_S512x1 (constant S_ .f32 0x44000000#32)))
        (broadcastInDim S512x1 ![] bcast_S_S512x1 (constant S_ .f32 0x358637BD#32))))))
      (broadcastInDim S512x512 ![0, 1] bcast_S1x512_S512x512_0_1 (broadcastInDim S1x512 ![1] bcast_S512_S1x512_1 G)) = refOut X R G := by
  funext i
  obtain ⟨r, t, rfl⟩ : ∃ (r t : Fin 512), i = ix2 r t := ⟨i 0, i 1, eq_ix2 i⟩
  refine (normalised _ G r t).trans ?_
  unfold refOut
  congr 1
  funext l
  exact congrArg (· + R (ix2 r l)) (slab_sum X (by decide) r l)

end Cert.ReferenceIdeal.Closed

end
-- ==== Proof.lean ====
/-
# The claims, put together

The frames come from the run (`run_result`, the same module for the program at bit patterns and for its ideal reading),
the value from `outAt_eq` and `result_eq`: both sides are one row formula of the same arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem Idealize.ShloMosaic.ValueIdx

/-- The kernel runs, its arguments end unchanged, every semaphore ends at zero. -/
theorem quiescent_kernel : Cert.quiescent_Kernel (hKernel := Cert.Kernel.Gen.facts) := fun m g _ =>
  (θ_run _ _ _).mono (fun _ h => ⟨fun c => (h.1 c).2, h.2⟩) (Cert.Kernel.Mesh.run_result m g)

/-- The same of its ideal reading. -/
theorem quiescent_kernelIdeal : Cert.quiescent_KernelIdeal (hKernelIdeal := Cert.KernelIdeal.Gen.facts) := fun m g _ =>
  (θ_run _ _ _).mono (fun _ h => ⟨fun c => (h.1 c).2, h.2⟩) (Cert.KernelIdeal.Mesh.run_result m g)

/-- The same of the reference, which has no semaphore. -/
theorem quiescent_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The part of the stacked partial sums that device `c` holds is the slab of its place in its group. -/
theorem slab_of_block (X : (⟨3, ![4, 512, 512]⟩ : Shape).Idx → EReal) (c : Dev Cert.KernelIdeal.nD) (i k : Fin 512) :
    (Layout.blockN ⟨3, ![1, 512, 512]⟩ ⟨3, ![4, 512, 512]⟩ (Layout.meshBlock [2, 4, 4] ![[1], [], []] c) X) (ix3 (0 : Fin 1) i k)
      = X (ix3 (Cert.KernelIdeal.Mesh.row c) i k) := by
  refine congrArg X (funext fun a => Fin.ext ?_)
  rw [Layout.TilesN.idx_val]
  fin_cases a
  · show (c.val / 4 % 4 * 1 + 0) * 1 + 0 = c.val / 4 % 4
    omega
  · exact (congrArg (· + i.val) (Nat.zero_mul 512)).trans (Nat.zero_add _)
  · exact (congrArg (· + k.val) (Nat.zero_mul 512)).trans (Nat.zero_add _)

/-- With floats read as extended reals every device of the kernel ends with the reference's result. -/
theorem algebraic : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun _ h c => ⟨(h.1 c).1.trans (Cert.KernelIdeal.Mesh.outAt_eq m
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (fun d i k => by
          rw [Cert.KernelIdeal.Mesh.xAt_eq]
          exact (congrFun (hm d).1 _).trans (slab_of_block _ d i k))
        (fun d => (Cert.KernelIdeal.Mesh.sAt_eq m d).trans (hm d).2.1)
        (fun d => (Cert.KernelIdeal.Mesh.gAt_eq m d).trans (hm d).2.2) c), (h.1 c).2⟩) (Cert.KernelIdeal.Mesh.run_result m g),
    (θ_run _ _ _).mono (fun _ h => ⟨(h 0).1.trans (Cert.ReferenceIdeal.Closed.result_eq _ _ _), (h 0).2⟩) (Cert.ReferenceIdeal.Value.run m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
